-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_log1p [hKernelIdeal : Cert.KernelIdeal.Facts] [hPre_in_range : Cert.Pre_in_range.Facts] [hPost_near_log1p : Cert.Post_near_log1p.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_log1p.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v11))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_near_log1p : Cert.Post_near_log1p.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ holds_KernelIdeal_near_log1p (hKernelIdeal := hKernelIdeal) (hPre_in_range := hPre_in_range) (hPost_near_log1p := hPost_near_log1p)
-- ==== Post_near_log1p.lean ====
abbrev S8x256x128x128 : Shape := ⟨4, ![8, 256, 128, 128]⟩
abbrev S8x128 : Shape := ⟨2, ![8, 128]⟩
abbrev S8x128x256 : Shape := ⟨3, ![8, 128, 256]⟩
abbrev S_ : Shape := ⟨0, ![]⟩
abbrev S8x128x128x256 : Shape := ⟨4, ![8, 128, 128, 256]⟩
abbrev S8x16384x256 : Shape := ⟨3, ![8, 16384, 256]⟩
abbrev S8x128x1 : Shape := ⟨3, ![8, 128, 1]⟩
abbrev S1 : Shape := ⟨1, ![1]⟩
abbrev S1x1x1 : Shape := ⟨3, ![1, 1, 1]⟩

class Facts : Prop where
  transposes_S8x256x128x128_S8x128x128x256_0_2_3_1 : S8x256x128x128.Transposes [0, 2, 3, 1] S8x128x128x256
  shapeCasts_S8x128x128x256_S8x16384x256 : S8x128x128x256.ShapeCasts S8x16384x256
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S1_S1x1x1_2 : S1.BroadcastsInDim S1x1x1 (![2] : Fin 1 → Fin S1x1x1.rank)
  bcast_S1x1x1_S8x128x1_0_1_2 : S1x1x1.BroadcastsInDim S8x128x1 (![0, 1, 2] : Fin 3 → Fin S8x128x1.rank)
  reducesTo_S8x128x1_S8x128_d2 : S8x128x1.ReducesTo [2] S8x128
  h_S_ : 0 < S_.numel
  bcast_S8x128_S8x128x256_0_1 : S8x128.BroadcastsInDim S8x128x256 (![0, 1] : Fin 2 → Fin S8x128x256.rank)
  bcast_S_S8x128x256 : S_.BroadcastsInDim S8x128x256 (![] : Fin 0 → Fin S8x128x256.rank)
  bcast_S_S8x128 : S_.BroadcastsInDim S8x128 (![] : Fin 0 → Fin S8x128.rank)
  bcast_S8x128x1_S8x128x256_0_1_2 : S8x128x1.BroadcastsInDim S8x128x256 (![0, 1, 2] : Fin 3 → Fin S8x128x256.rank)
  reducesTo_S8x128x256_S_d0_1_2 : S8x128x256.ReducesTo [0, 1, 2] S_
  gather_S8x16384x256_S8x128x1_S8x128x256_2_1_0_0_1_2_11256_wf : GatherDims.WF S8x16384x256 S8x128x1 S8x128x256 [2] [1] [0] [1] [0] 2 ![1, 1, 256]

variable [Facts]

def gather_S8x16384x256_S8x128x1_S8x128x256_2_1_0_0_1_2_11256 : GatherDims S8x16384x256 S8x128x1 S8x128x256 where
  offsetDims := [2]
  collapsedSliceDims := [1]
  operandBatchingDims := [0]
  startIndicesBatchingDims := [0]
  startIndexMap := [1]
  indexVectorDim := 2
  sliceSizes := ![1, 1, 256]
  wf := gather_S8x16384x256_S8x128x1_S8x128x256_2_1_0_0_1_2_11256_wf
def fn_take_along_axis {F : FTy → Type} [FloatOps F] (arg0 : FVec F S8x16384x256 .f32) (arg1 : IVec S8x128x1 32) : FVec F S8x128x256 .f32 :=
  let c : IVec S_ 32 := constantI S_ 32 0#32
  let v0 : IVec S8x128x1 32 := broadcastInDim S8x128x1 ![] bcast_S_S8x128x1 c
  let v1 : IVec S8x128x1 1 := cmpi .slt arg1 v0
  let c_0 : IVec S_ 32 := constantI S_ 32 16384#32
  let v2 : IVec S8x128x1 32 := broadcastInDim S8x128x1 ![] bcast_S_S8x128x1 c_0
  let v3 : IVec S8x128x1 32 := addi arg1 v2
  let v4 : IVec S8x128x1 32 := select v1 v3 arg1
  let c_1 : IVec S1 32 := constantI S1 32 16383#32
  let c_2 : IVec S_ 32 := constantI S_ 32 0#32
  let v5 : IVec S8x128x1 32 := broadcastInDim S8x128x1 ![] bcast_S_S8x128x1 c_2
  let v6 : IVec S8x128x1 1 := cmpi .sge v4 v5
  let v7 : IVec S1x1x1 32 := broadcastInDim S1x1x1 ![2] bcast_S1_S1x1x1_2 c_1
  let v8 : IVec S8x128x1 32 := broadcastInDim S8x128x1 ![0, 1, 2] bcast_S1x1x1_S8x128x1_0_1_2 v7
  let v9 : IVec S8x128x1 1 := cmpi .sle v4 v8
  let v10 : IVec S8x128x1 1 := andi v6 v9
  let c_3 : IVec S_ 1 := constantI S_ 1 1#1
  let v11 : IVec S8x128 1 := (fun x v => Host.reduce IntOp.andi x v reducesTo_S8x128x1_S8x128_d2 h_S_) v10 c_3
  let v12 : FVec F S8x128x256 .f32 := (fun x i => Host.gather gather_S8x16384x256_S8x128x1_S8x128x256_2_1_0_0_1_2_11256 x i) arg0 v4
  let v13 : IVec S8x128x256 1 := broadcastInDim S8x128x256 ![0, 1] bcast_S8x128_S8x128x256_0_1 v11
  let cst : FVec F S_ .f32 := constant S_ .f32 0x7FC00000#32
  let v14 : FVec F S8x128x256 .f32 := broadcastInDim S8x128x256 ![] bcast_S_S8x128x256 cst
  let v15 : FVec F S8x128x256 .f32 := select v13 v12 v14
  v15

def fn_where {F : FTy → Type} [FloatOps F] (arg0 : IVec S8x128x256 1) (arg1 : FVec F S8x128x256 .f32) (arg2 : FVec F S_ .f32) : FVec F S8x128x256 .f32 :=
  let v0 : FVec F S_ .f32 := id arg2
  let v1 : FVec F S8x128x256 .f32 := broadcastInDim S8x128x256 ![] bcast_S_S8x128x256 v0
  let v2 : FVec F S8x128x256 .f32 := select arg0 arg1 v1
  v2

def fn_part1 {F : FTy → Type} [FloatOps F] (main_arg4 : FVec F S_ .f32) (main_v8 : IVec S8x128x256 1) (main_v19 : FVec F S_ .f32) : IVec S_ 1 :=
  let main_v20 : FVec F S8x128x256 .f32 := uitofp .f32 main_v8
  let main_cst_2 : FVec F S_ .f32 := constant S_ .f32 0x00000000#32
  let main_v21 : FVec F S_ .f32 := (fun x v => Host.reduceAdd x v reducesTo_S8x128x256_S_d0_1_2 h_S_) main_v20 main_cst_2
  let main_cst_3 : FVec F S_ .f32 := constant S_ .f32 0x38D1B717#32
  let main_v22 : FVec F S_ .f32 := addf main_v21 main_cst_3
  let main_v23 : FVec F S_ .f32 := Host.divf main_v19 main_v22
  let main_cst_4 : FVec F S_ .f32 := constant S_ .f32 0x368637BD#32
  let main_v24 : FVec F S_ .f32 := addf main_arg4 main_cst_4
  let main_v25 : IVec S_ 1 := cmpf .ole main_v23 main_v24
  let main_cst_5 : FVec F S_ .f32 := constant S_ .f32 0x368637BD#32
  let main_v26 : FVec F S_ .f32 := addf main_v23 main_cst_5
  let main_v27 : IVec S_ 1 := cmpf .ole main_arg4 main_v26
  let main_v28 : IVec S_ 1 := andi main_v25 main_v27
  main_v28

def fn {F : FTy → Type} [FloatOps F] (main_arg0 : FVec F S8x256x128x128 .f32) (main_arg1 : IVec S8x128 32) (main_arg2 : IVec S8x128 32) (main_arg3 : FVec F S8x128x256 .f32) (main_arg4 : FVec F S_ .f32) : IVec S_ 1 :=
  let main_v0 : FVec F S8x128x128x256 .f32 := (transpose S8x128x128x256 [0, 2, 3, 1] · transposes_S8x256x128x128_S8x128x128x256_0_2_3_1) main_arg0
  let main_v1 : FVec F S8x16384x256 .f32 := shapeCast S8x16384x256 main_v0 shapeCasts_S8x128x128x256_S8x16384x256
  let main_v2 : IVec S8x128x1 32 := broadcastInDim S8x128x1 ![0, 1] bcast_S8x128_S8x128x1_0_1 main_arg2
  let main_v3 : FVec F S8x128x256 .f32 := fn_take_along_axis (F := F) main_v1 main_v2
  let main_c : IVec S_ 32 := constantI S_ 32 0#32
  let main_v4 : IVec S8x128 32 := broadcastInDim S8x128 ![] bcast_S_S8x128 main_c
  let main_v5 : IVec S8x128 1 := cmpi .ne main_arg1 main_v4
  let main_v6 : IVec S8x128 1 := id main_v5
  let main_v7 : IVec S8x128x1 1 := broadcastInDim S8x128x1 ![0, 1] bcast_S8x128_S8x128x1_0_1 main_v6
  let main_v8 : IVec S8x128x256 1 := broadcastInDim S8x128x256 ![0, 1, 2] bcast_S8x128x1_S8x128x256_0_1_2 main_v7
  let main_cst : FVec F S_ .f32 := constant S_ .f32 0x00000000#32
  let main_v9 : FVec F S8x128x256 .f32 := broadcastInDim S8x128x256 ![] bcast_S_S8x128x256 main_cst
  let main_v10 : FVec F S8x128x256 .f32 := maximumf main_v3 main_v9
  let main_v11 : FVec F S8x128x256 .f32 := mulf main_v3 main_arg3
  let main_v12 : FVec F S8x128x256 .f32 := subf main_v10 main_v11
  let main_v13 : FVec F S8x128x256 .f32 := Host.absf main_v3
  let main_v14 : FVec F S8x128x256 .f32 := Host.negf main_v13
  let main_v15 : FVec F S8x128x256 .f32 := Host.exp main_v14
  let main_v16 : FVec F S8x128x256 .f32 := Host.log1p main_v15
  let main_v17 : FVec F S8x128x256 .f32 := addf main_v12 main_v16
  let main_cst_0 : FVec F S_ .f32 := constant S_ .f32 0x00000000#32
  let main_v18 : FVec F S8x128x256 .f32 := fn_where (F := F) main_v8 main_v17 main_cst_0
  let main_cst_1 : FVec F S_ .f32 := constant S_ .f32 0x00000000#32
  let main_v19 : FVec F S_ .f32 := (fun x v => Host.reduceAdd x v reducesTo_S8x128x256_S_d0_1_2 h_S_) main_v18 main_cst_1
  fn_part1 (F := F) main_arg4 main_v8 main_v19
-- ==== Pre_in_range.lean ====
abbrev S8x256x128x128 : Shape := ⟨4, ![8, 256, 128, 128]⟩
abbrev S8x128 : Shape := ⟨2, ![8, 128]⟩
abbrev S8x128x256 : Shape := ⟨3, ![8, 128, 256]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S8x256x128x128 .f32) (main_arg1 : IVec S8x128 32) (main_arg2 : IVec S8x128 32) (main_arg3 : FVec F S8x128x256 .f32) : IVec S_ 1 :=
  let main_c : IVec S_ 32 := constantI S_ 32 0#32
  let main_v0 : IVec S8x128 32 := broadcastInDim S8x128 ![] bcast_S_S8x128 main_c
  let main_v1 : IVec S8x128 1 := cmpi .sge main_arg2 main_v0
  let main_c_0 : IVec S_ 32 := constantI S_ 32 16384#32
  let main_v2 : IVec S8x128 32 := broadcastInDim S8x128 ![] bcast_S_S8x128 main_c_0
  let main_v3 : IVec S8x128 1 := cmpi .slt main_arg2 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S8x256x128x128 : Shape := ⟨4, ![8, 256, 128, 128]⟩
abbrev S8x128 : Shape := ⟨2, ![8, 128]⟩
abbrev S8x128x256 : Shape := ⟨3, ![8, 128, 256]⟩
abbrev S33554432 : Shape := ⟨1, ![33554432]⟩
abbrev S1024 : Shape := ⟨1, ![1024]⟩
abbrev S262144 : Shape := ⟨1, ![262144]⟩
abbrev S32x32 : Shape := ⟨2, ![32, 32]⟩
abbrev S32 : Shape := ⟨1, ![32]⟩
abbrev S8192 : Shape := ⟨1, ![8192]⟩
abbrev S_ : Shape := ⟨0, ![]⟩
abbrev S16 : Shape := ⟨1, ![16]⟩
abbrev S1 : Shape := ⟨1, ![1]⟩
abbrev S128 : Shape := ⟨1, ![128]⟩
abbrev S1x32 : Shape := ⟨2, ![1, 32]⟩
abbrev S32x16 : Shape := ⟨2, ![32, 16]⟩

abbrev nBuf : Table → Nat
  | .hbm => 20
  | .local .scVector .vmem => 6
  | _ => 0

abbrev bufTy : (tb : Table) → Fin (nBuf tb) → BufTy
  | .hbm, ⟨0, _⟩ => ⟨S8x256x128x128, .f32⟩
  | .hbm, ⟨1, _⟩ => ⟨S8x128, .i32⟩
  | .hbm, ⟨2, _⟩ => ⟨S8x128, .i32⟩
  | .hbm, ⟨3, _⟩ => ⟨S8x128x256, .f32⟩
  | .hbm, ⟨4, _⟩ => ⟨S33554432, .f32⟩
  | .hbm, ⟨5, _⟩ => ⟨S1024, .i32⟩
  | .hbm, ⟨6, _⟩ => ⟨S1024, .i32⟩
  | .hbm, ⟨7, _⟩ => ⟨S262144, .f32⟩
  | .hbm, ⟨8, _⟩ => ⟨S32x32, .f32⟩
  | .hbm, ⟨9, _⟩ => ⟨S32x16, .f32⟩
  | .hbm, ⟨10, _⟩ => ⟨S_, .f32⟩
  | .hbm, ⟨11, _⟩ => ⟨S_, .f32⟩
  | .hbm, ⟨12, _⟩ => ⟨S32x16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .scVector .vmem, ⟨0, _⟩ => ⟨S32, .i32⟩
  | .local .scVector .vmem, ⟨1, _⟩ => ⟨S32, .i32⟩
  | .local .scVector .vmem, ⟨2, _⟩ => ⟨S8192, .f32⟩
  | .local .scVector .vmem, ⟨3, _⟩ => ⟨S8192, .i32⟩
  | .local .scVector .vmem, ⟨4, _⟩ => ⟨S8192, .f32⟩
  | .local .scVector .vmem, ⟨5, _⟩ => ⟨S32, .f32⟩
  | _, _ => ⟨S8x256x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c256_i32 : BitVec 32 := 256#32
  let v3 : BitVec 32 := Scalar.muli v2 c256_i32
  ![v3.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c256_i32 : BitVec 32 := 256#32
  let v3 : BitVec 32 := Scalar.muli v2 c256_i32
  ![v3.toNat]
@[reducible] def k0_t1_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off4 (k0_t1 : Fin k0_t1_loop.trips) : Fin 1 → Nat :=
  let c0_i32_209 : BitVec 32 := 0#32
  let c0_i32_202 : BitVec 32 := 0#32
  let c1_i32_204 : BitVec 32 := 1#32
  let arg16 : BitVec 32 := Scf.iv c0_i32_202 c1_i32_204 k0_t1
  let c16_i32_208 : BitVec 32 := 16#32
  let v477 : BitVec 32 := Scalar.muli arg16 c16_i32_208
  let v478 : BitVec 32 := Scalar.addi c0_i32_209 v477
  let v479 : Index := Scalar.indexCast v478
  ![v479.toNat]
@[reducible] def k0_t2_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off5 (k0_t2 : Fin k0_t2_loop.trips) : Fin 1 → Nat :=
  let c256_i32_209 : BitVec 32 := 256#32
  let c0_i32_202 : BitVec 32 := 0#32
  let c1_i32_204 : BitVec 32 := 1#32
  let arg16 : BitVec 32 := Scf.iv c0_i32_202 c1_i32_204 k0_t2
  let c16_i32_208 : BitVec 32 := 16#32
  let v477 : BitVec 32 := Scalar.muli arg16 c16_i32_208
  let v478 : BitVec 32 := Scalar.addi c256_i32_209 v477
  let v479 : Index := Scalar.indexCast v478
  ![v479.toNat]
@[reducible] def k0_t3_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off6 (k0_t3 : Fin k0_t3_loop.trips) : Fin 1 → Nat :=
  let c512_i32 : BitVec 32 := 512#32
  let c0_i32_202 : BitVec 32 := 0#32
  let c1_i32_204 : BitVec 32 := 1#32
  let arg16 : BitVec 32 := Scf.iv c0_i32_202 c1_i32_204 k0_t3
  let c16_i32_208 : BitVec 32 := 16#32
  let v477 : BitVec 32 := Scalar.muli arg16 c16_i32_208
  let v478 : BitVec 32 := Scalar.addi c512_i32 v477
  let v479 : Index := Scalar.indexCast v478
  ![v479.toNat]
@[reducible] def k0_t4_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off7 (k0_t4 : Fin k0_t4_loop.trips) : Fin 1 → Nat :=
  let c768_i32 : BitVec 32 := 768#32
  let c0_i32_202 : BitVec 32 := 0#32
  let c1_i32_204 : BitVec 32 := 1#32
  let arg16 : BitVec 32 := Scf.iv c0_i32_202 c1_i32_204 k0_t4
  let c16_i32_208 : BitVec 32 := 16#32
  let v477 : BitVec 32 := Scalar.muli arg16 c16_i32_208
  let v478 : BitVec 32 := Scalar.addi c768_i32 v477
  let v479 : Index := Scalar.indexCast v478
  ![v479.toNat]
@[reducible] def k0_t5_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off8 (k0_t5 : Fin k0_t5_loop.trips) : Fin 1 → Nat :=
  let c1024_i32 : BitVec 32 := 1024#32
  let c0_i32_202 : BitVec 32 := 0#32
  let c1_i32_204 : BitVec 32 := 1#32
  let arg16 : BitVec 32 := Scf.iv c0_i32_202 c1_i32_204 k0_t5
  let c16_i32_208 : BitVec 32 := 16#32
  let v477 : BitVec 32 := Scalar.muli arg16 c16_i32_208
  let v478 : BitVec 32 := Scalar.addi c1024_i32 v477
  let v479 : Index := Scalar.indexCast v478
  ![v479.toNat]
@[reducible] def k0_t6_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off9 (k0_t6 : Fin k0_t6_loop.trips) : Fin 1 → Nat :=
  let c1280_i32 : BitVec 32 := 1280#32
  let c0_i32_202 : BitVec 32 := 0#32
  let c1_i32_204 : BitVec 32 := 1#32
  let arg16 : BitVec 32 := Scf.iv c0_i32_202 c1_i32_204 k0_t6
  let c16_i32_208 : BitVec 32 := 16#32
  let v477 : BitVec 32 := Scalar.muli arg16 c16_i32_208
  let v478 : BitVec 32 := Scalar.addi c1280_i32 v477
  let v479 : Index := Scalar.indexCast v478
  ![v479.toNat]
@[reducible] def k0_t7_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off10 (k0_t7 : Fin k0_t7_loop.trips) : Fin 1 → Nat :=
  let c1536_i32 : BitVec 32 := 1536#32
  let c0_i32_202 : BitVec 32 := 0#32
  let c1_i32_204 : BitVec 32 := 1#32
  let arg16 : BitVec 32 := Scf.iv c0_i32_202 c1_i32_204 k0_t7
  let c16_i32_208 : BitVec 32 := 16#32
  let v477 : BitVec 32 := Scalar.muli arg16 c16_i32_208
  let v478 : BitVec 32 := Scalar.addi c1536_i32 v477
  let v479 : Index := Scalar.indexCast v478
  ![v479.toNat]
@[reducible] def k0_t8_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off11 (k0_t8 : Fin k0_t8_loop.trips) : Fin 1 → Nat :=
  let c1792_i32 : BitVec 32 := 1792#32
  let c0_i32_202 : BitVec 32 := 0#32
  let c1_i32_204 : BitVec 32 := 1#32
  let arg16 : BitVec 32 := Scf.iv c0_i32_202 c1_i32_204 k0_t8
  let c16_i32_208 : BitVec 32 := 16#32
  let v477 : BitVec 32 := Scalar.muli arg16 c16_i32_208
  let v478 : BitVec 32 := Scalar.addi c1792_i32 v477
  let v479 : Index := Scalar.indexCast v478
  ![v479.toNat]
@[reducible] def k0_t9_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off12 (k0_t9 : Fin k0_t9_loop.trips) : Fin 1 → Nat :=
  let c2048_i32 : BitVec 32 := 2048#32
  let c0_i32_202 : BitVec 32 := 0#32
  let c1_i32_204 : BitVec 32 := 1#32
  let arg16 : BitVec 32 := Scf.iv c0_i32_202 c1_i32_204 k0_t9
  let c16_i32_208 : BitVec 32 := 16#32
  let v477 : BitVec 32 := Scalar.muli arg16 c16_i32_208
  let v478 : BitVec 32 := Scalar.addi c2048_i32 v477
  let v479 : Index := Scalar.indexCast v478
  ![v479.toNat]
@[reducible] def k0_t10_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off13 (k0_t10 : Fin k0_t10_loop.trips) : Fin 1 → Nat :=
  let c2304_i32 : BitVec 32 := 2304#32
  let c0_i32_202 : BitVec 32 := 0#32
  let c1_i32_204 : BitVec 32 := 1#32
  let arg16 : BitVec 32 := Scf.iv c0_i32_202 c1_i32_204 k0_t10
  let c16_i32_208 : BitVec 32 := 16#32
  let v477 : BitVec 32 := Scalar.muli arg16 c16_i32_208
  let v478 : BitVec 32 := Scalar.addi c2304_i32 v477
  let v479 : Index := Scalar.indexCast v478
  ![v479.toNat]
@[reducible] def k0_t11_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off14 (k0_t11 : Fin k0_t11_loop.trips) : Fin 1 → Nat :=
  let c2560_i32 : BitVec 32 := 2560#32
  let c0_i32_202 : BitVec 32 := 0#32
  let c1_i32_204 : BitVec 32 := 1#32
  let arg16 : BitVec 32 := Scf.iv c0_i32_202 c1_i32_204 k0_t11
  let c16_i32_208 : BitVec 32 := 16#32
  let v477 : BitVec 32 := Scalar.muli arg16 c16_i32_208
  let v478 : BitVec 32 := Scalar.addi c2560_i32 v477
  let v479 : Index := Scalar.indexCast v478
  ![v479.toNat]
@[reducible] def k0_t12_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off15 (k0_t12 : Fin k0_t12_loop.trips) : Fin 1 → Nat :=
  let c2816_i32 : BitVec 32 := 2816#32
  let c0_i32_202 : BitVec 32 := 0#32
  let c1_i32_204 : BitVec 32 := 1#32
  let arg16 : BitVec 32 := Scf.iv c0_i32_202 c1_i32_204 k0_t12
  let c16_i32_208 : BitVec 32 := 16#32
  let v477 : BitVec 32 := Scalar.muli arg16 c16_i32_208
  let v478 : BitVec 32 := Scalar.addi c2816_i32 v477
  let v479 : Index := Scalar.indexCast v478
  ![v479.toNat]
@[reducible] def k0_t13_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off16 (k0_t13 : Fin k0_t13_loop.trips) : Fin 1 → Nat :=
  let c3072_i32 : BitVec 32 := 3072#32
  let c0_i32_202 : BitVec 32 := 0#32
  let c1_i32_204 : BitVec 32 := 1#32
  let arg16 : BitVec 32 := Scf.iv c0_i32_202 c1_i32_204 k0_t13
  let c16_i32_208 : BitVec 32 := 16#32
  let v477 : BitVec 32 := Scalar.muli arg16 c16_i32_208
  let v478 : BitVec 32 := Scalar.addi c3072_i32 v477
  let v479 : Index := Scalar.indexCast v478
  ![v479.toNat]
@[reducible] def k0_t14_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off17 (k0_t14 : Fin k0_t14_loop.trips) : Fin 1 → Nat :=
  let c3328_i32 : BitVec 32 := 3328#32
  let c0_i32_202 : BitVec 32 := 0#32
  let c1_i32_204 : BitVec 32 := 1#32
  let arg16 : BitVec 32 := Scf.iv c0_i32_202 c1_i32_204 k0_t14
  let c16_i32_208 : BitVec 32 := 16#32
  let v477 : BitVec 32 := Scalar.muli arg16 c16_i32_208
  let v478 : BitVec 32 := Scalar.addi c3328_i32 v477
  let v479 : Index := Scalar.indexCast v478
  ![v479.toNat]
@[reducible] def k0_t15_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off18 (k0_t15 : Fin k0_t15_loop.trips) : Fin 1 → Nat :=
  let c3584_i32 : BitVec 32 := 3584#32
  let c0_i32_202 : BitVec 32 := 0#32
  let c1_i32_204 : BitVec 32 := 1#32
  let arg16 : BitVec 32 := Scf.iv c0_i32_202 c1_i32_204 k0_t15
  let c16_i32_208 : BitVec 32 := 16#32
  let v477 : BitVec 32 := Scalar.muli arg16 c16_i32_208
  let v478 : BitVec 32 := Scalar.addi c3584_i32 v477
  let v479 : Index := Scalar.indexCast v478
  ![v479.toNat]
@[reducible] def k0_t16_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off19 (k0_t16 : Fin k0_t16_loop.trips) : Fin 1 → Nat :=
  let c3840_i32 : BitVec 32 := 3840#32
  let c0_i32_202 : BitVec 32 := 0#32
  let c1_i32_204 : BitVec 32 := 1#32
  let arg16 : BitVec 32 := Scf.iv c0_i32_202 c1_i32_204 k0_t16
  let c16_i32_208 : BitVec 32 := 16#32
  let v477 : BitVec 32 := Scalar.muli arg16 c16_i32_208
  let v478 : BitVec 32 := Scalar.addi c3840_i32 v477
  let v479 : Index := Scalar.indexCast v478
  ![v479.toNat]
@[reducible] def k0_t17_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off20 (k0_t17 : Fin k0_t17_loop.trips) : Fin 1 → Nat :=
  let c4096_i32 : BitVec 32 := 4096#32
  let c0_i32_202 : BitVec 32 := 0#32
  let c1_i32_204 : BitVec 32 := 1#32
  let arg16 : BitVec 32 := Scf.iv c0_i32_202 c1_i32_204 k0_t17
  let c16_i32_208 : BitVec 32 := 16#32
  let v477 : BitVec 32 := Scalar.muli arg16 c16_i32_208
  let v478 : BitVec 32 := Scalar.addi c4096_i32 v477
  let v479 : Index := Scalar.indexCast v478
  ![v479.toNat]
@[reducible] def k0_t18_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off21 (k0_t18 : Fin k0_t18_loop.trips) : Fin 1 → Nat :=
  let c4352_i32 : BitVec 32 := 4352#32
  let c0_i32_202 : BitVec 32 := 0#32
  let c1_i32_204 : BitVec 32 := 1#32
  let arg16 : BitVec 32 := Scf.iv c0_i32_202 c1_i32_204 k0_t18
  let c16_i32_208 : BitVec 32 := 16#32
  let v477 : BitVec 32 := Scalar.muli arg16 c16_i32_208
  let v478 : BitVec 32 := Scalar.addi c4352_i32 v477
  let v479 : Index := Scalar.indexCast v478
  ![v479.toNat]
@[reducible] def k0_t19_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off22 (k0_t19 : Fin k0_t19_loop.trips) : Fin 1 → Nat :=
  let c4608_i32 : BitVec 32 := 4608#32
  let c0_i32_202 : BitVec 32 := 0#32
  let c1_i32_204 : BitVec 32 := 1#32
  let arg16 : BitVec 32 := Scf.iv c0_i32_202 c1_i32_204 k0_t19
  let c16_i32_208 : BitVec 32 := 16#32
  let v477 : BitVec 32 := Scalar.muli arg16 c16_i32_208
  let v478 : BitVec 32 := Scalar.addi c4608_i32 v477
  let v479 : Index := Scalar.indexCast v478
  ![v479.toNat]
@[reducible] def k0_t20_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off23 (k0_t20 : Fin k0_t20_loop.trips) : Fin 1 → Nat :=
  let c4864_i32 : BitVec 32 := 4864#32
  let c0_i32_202 : BitVec 32 := 0#32
  let c1_i32_204 : BitVec 32 := 1#32
  let arg16 : BitVec 32 := Scf.iv c0_i32_202 c1_i32_204 k0_t20
  let c16_i32_208 : BitVec 32 := 16#32
  let v477 : BitVec 32 := Scalar.muli arg16 c16_i32_208
  let v478 : BitVec 32 := Scalar.addi c4864_i32 v477
  let v479 : Index := Scalar.indexCast v478
  ![v479.toNat]
@[reducible] def k0_t21_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off24 (k0_t21 : Fin k0_t21_loop.trips) : Fin 1 → Nat :=
  let c5120_i32 : BitVec 32 := 5120#32
  let c0_i32_202 : BitVec 32 := 0#32
  let c1_i32_204 : BitVec 32 := 1#32
  let arg16 : BitVec 32 := Scf.iv c0_i32_202 c1_i32_204 k0_t21
  let c16_i32_208 : BitVec 32 := 16#32
  let v477 : BitVec 32 := Scalar.muli arg16 c16_i32_208
  let v478 : BitVec 32 := Scalar.addi c5120_i32 v477
  let v479 : Index := Scalar.indexCast v478
  ![v479.toNat]
@[reducible] def k0_t22_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off25 (k0_t22 : Fin k0_t22_loop.trips) : Fin 1 → Nat :=
  let c5376_i32 : BitVec 32 := 5376#32
  let c0_i32_202 : BitVec 32 := 0#32
  let c1_i32_204 : BitVec 32 := 1#32
  let arg16 : BitVec 32 := Scf.iv c0_i32_202 c1_i32_204 k0_t22
  let c16_i32_208 : BitVec 32 := 16#32
  let v477 : BitVec 32 := Scalar.muli arg16 c16_i32_208
  let v478 : BitVec 32 := Scalar.addi c5376_i32 v477
  let v479 : Index := Scalar.indexCast v478
  ![v479.toNat]
@[reducible] def k0_t23_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off26 (k0_t23 : Fin k0_t23_loop.trips) : Fin 1 → Nat :=
  let c5632_i32 : BitVec 32 := 5632#32
  let c0_i32_202 : BitVec 32 := 0#32
  let c1_i32_204 : BitVec 32 := 1#32
  let arg16 : BitVec 32 := Scf.iv c0_i32_202 c1_i32_204 k0_t23
  let c16_i32_208 : BitVec 32 := 16#32
  let v477 : BitVec 32 := Scalar.muli arg16 c16_i32_208
  let v478 : BitVec 32 := Scalar.addi c5632_i32 v477
  let v479 : Index := Scalar.indexCast v478
  ![v479.toNat]
@[reducible] def k0_t24_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off27 (k0_t24 : Fin k0_t24_loop.trips) : Fin 1 → Nat :=
  let c5888_i32 : BitVec 32 := 5888#32
  let c0_i32_202 : BitVec 32 := 0#32
  let c1_i32_204 : BitVec 32 := 1#32
  let arg16 : BitVec 32 := Scf.iv c0_i32_202 c1_i32_204 k0_t24
  let c16_i32_208 : BitVec 32 := 16#32
  let v477 : BitVec 32 := Scalar.muli arg16 c16_i32_208
  let v478 : BitVec 32 := Scalar.addi c5888_i32 v477
  let v479 : Index := Scalar.indexCast v478
  ![v479.toNat]
@[reducible] def k0_t25_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off28 (k0_t25 : Fin k0_t25_loop.trips) : Fin 1 → Nat :=
  let c6144_i32 : BitVec 32 := 6144#32
  let c0_i32_202 : BitVec 32 := 0#32
  let c1_i32_204 : BitVec 32 := 1#32
  let arg16 : BitVec 32 := Scf.iv c0_i32_202 c1_i32_204 k0_t25
  let c16_i32_208 : BitVec 32 := 16#32
  let v477 : BitVec 32 := Scalar.muli arg16 c16_i32_208
  let v478 : BitVec 32 := Scalar.addi c6144_i32 v477
  let v479 : Index := Scalar.indexCast v478
  ![v479.toNat]
@[reducible] def k0_t26_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off29 (k0_t26 : Fin k0_t26_loop.trips) : Fin 1 → Nat :=
  let c6400_i32 : BitVec 32 := 6400#32
  let c0_i32_202 : BitVec 32 := 0#32
  let c1_i32_204 : BitVec 32 := 1#32
  let arg16 : BitVec 32 := Scf.iv c0_i32_202 c1_i32_204 k0_t26
  let c16_i32_208 : BitVec 32 := 16#32
  let v477 : BitVec 32 := Scalar.muli arg16 c16_i32_208
  let v478 : BitVec 32 := Scalar.addi c6400_i32 v477
  let v479 : Index := Scalar.indexCast v478
  ![v479.toNat]
@[reducible] def k0_t27_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off30 (k0_t27 : Fin k0_t27_loop.trips) : Fin 1 → Nat :=
  let c6656_i32 : BitVec 32 := 6656#32
  let c0_i32_202 : BitVec 32 := 0#32
  let c1_i32_204 : BitVec 32 := 1#32
  let arg16 : BitVec 32 := Scf.iv c0_i32_202 c1_i32_204 k0_t27
  let c16_i32_208 : BitVec 32 := 16#32
  let v477 : BitVec 32 := Scalar.muli arg16 c16_i32_208
  let v478 : BitVec 32 := Scalar.addi c6656_i32 v477
  let v479 : Index := Scalar.indexCast v478
  ![v479.toNat]
@[reducible] def k0_t28_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off31 (k0_t28 : Fin k0_t28_loop.trips) : Fin 1 → Nat :=
  let c6912_i32 : BitVec 32 := 6912#32
  let c0_i32_202 : BitVec 32 := 0#32
  let c1_i32_204 : BitVec 32 := 1#32
  let arg16 : BitVec 32 := Scf.iv c0_i32_202 c1_i32_204 k0_t28
  let c16_i32_208 : BitVec 32 := 16#32
  let v477 : BitVec 32 := Scalar.muli arg16 c16_i32_208
  let v478 : BitVec 32 := Scalar.addi c6912_i32 v477
  let v479 : Index := Scalar.indexCast v478
  ![v479.toNat]
@[reducible] def k0_t29_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off32 (k0_t29 : Fin k0_t29_loop.trips) : Fin 1 → Nat :=
  let c7168_i32 : BitVec 32 := 7168#32
  let c0_i32_202 : BitVec 32 := 0#32
  let c1_i32_204 : BitVec 32 := 1#32
  let arg16 : BitVec 32 := Scf.iv c0_i32_202 c1_i32_204 k0_t29
  let c16_i32_208 : BitVec 32 := 16#32
  let v477 : BitVec 32 := Scalar.muli arg16 c16_i32_208
  let v478 : BitVec 32 := Scalar.addi c7168_i32 v477
  let v479 : Index := Scalar.indexCast v478
  ![v479.toNat]
@[reducible] def k0_t30_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off33 (k0_t30 : Fin k0_t30_loop.trips) : Fin 1 → Nat :=
  let c7424_i32 : BitVec 32 := 7424#32
  let c0_i32_202 : BitVec 32 := 0#32
  let c1_i32_204 : BitVec 32 := 1#32
  let arg16 : BitVec 32 := Scf.iv c0_i32_202 c1_i32_204 k0_t30
  let c16_i32_208 : BitVec 32 := 16#32
  let v477 : BitVec 32 := Scalar.muli arg16 c16_i32_208
  let v478 : BitVec 32 := Scalar.addi c7424_i32 v477
  let v479 : Index := Scalar.indexCast v478
  ![v479.toNat]
@[reducible] def k0_t31_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off34 (k0_t31 : Fin k0_t31_loop.trips) : Fin 1 → Nat :=
  let c7680_i32 : BitVec 32 := 7680#32
  let c0_i32_202 : BitVec 32 := 0#32
  let c1_i32_204 : BitVec 32 := 1#32
  let arg16 : BitVec 32 := Scf.iv c0_i32_202 c1_i32_204 k0_t31
  let c16_i32_208 : BitVec 32 := 16#32
  let v477 : BitVec 32 := Scalar.muli arg16 c16_i32_208
  let v478 : BitVec 32 := Scalar.addi c7680_i32 v477
  let v479 : Index := Scalar.indexCast v478
  ![v479.toNat]
@[reducible] def k0_t32_loop : Scf.Loop 32 :=
  let c0_i32_202 : BitVec 32 := 0#32
  let c16_i32_203 : BitVec 32 := 16#32
  let v469 : BitVec 32 := Scalar.addi c0_i32_202 c16_i32_203
  let c1_i32_204 : BitVec 32 := 1#32
  ⟨c0_i32_202, v469, c1_i32_204⟩
def k0_off35 (k0_t32 : Fin k0_t32_loop.trips) : Fin 1 → Nat :=
  let c7936_i32 : BitVec 32 := 7936#32
  let c0_i32_202 : BitVec 32 := 0#32
  let c1_i32_204 : BitVec 32 := 1#32
  let arg16 : BitVec 32 := Scf.iv c0_i32_202 c1_i32_204 k0_t32
  let c16_i32_208 : BitVec 32 := 16#32
  let v477 : BitVec 32 := Scalar.muli arg16 c16_i32_208
  let v478 : BitVec 32 := Scalar.addi c7936_i32 v477
  let v479 : Index := Scalar.indexCast v478
  ![v479.toNat]
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_201_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x256x128x128 : Shape := ⟨4, ![8, 256, 128, 128]⟩
abbrev S8x128 : Shape := ⟨2, ![8, 128]⟩
abbrev S8x128x256 : Shape := ⟨3, ![8, 128, 256]⟩
abbrev S8x128x128x256 : Shape := ⟨4, ![8, 128, 128, 256]⟩
abbrev S8x16384x256 : Shape := ⟨3, ![8, 16384, 256]⟩
abbrev S8x128x1 : Shape := ⟨3, ![8, 128, 1]⟩
abbrev S_ : Shape := ⟨0, ![]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x128, .i32⟩
  | .hbm, ⟨2, _⟩ => ⟨S8x128, .i32⟩
  | .hbm, ⟨3, _⟩ => ⟨S8x128x256, .f32⟩
  | .hbm, ⟨4, _⟩ => ⟨S8x128x128x256, .f32⟩
  | .hbm, ⟨5, _⟩ => ⟨S8x16384x256, .f32⟩
  | .hbm, ⟨6, _⟩ => ⟨S8x128x1, .i32⟩
  | .hbm, ⟨7, _⟩ => ⟨S_, .i32⟩
  | .hbm, ⟨8, _⟩ => ⟨S8x128x1, .i32⟩
  | .hbm, ⟨9, _⟩ => ⟨S8x128x1, .i1⟩
  | .hbm, ⟨10, _⟩ => ⟨S_, .i32⟩
  | .hbm, ⟨11, _⟩ => ⟨S8x128x1, .i32⟩
  | .hbm, ⟨12, _⟩ => ⟨S8x128x1, .i32⟩
  | .hbm, ⟨13, _⟩ => ⟨S8x128x1, .i32⟩
  | .hbm, ⟨14, _⟩ => ⟨S1, .i32⟩
  | .hbm, ⟨15, _⟩ => ⟨S_, .i32⟩
  | .hbm, ⟨16, _⟩ => ⟨S8x128x1, .i32⟩
  | .hbm, ⟨17, _⟩ => ⟨S8x128x1, .i1⟩
  | .hbm, ⟨18, _⟩ => ⟨S1x1x1, .i32⟩
  | .hbm, ⟨19, _⟩ => ⟨S8x128x1, .i32⟩
  | .hbm, ⟨20, _⟩ => ⟨S8x128x1, .i1⟩
  | .hbm, ⟨21, _⟩ => ⟨S8x128x1, .i1⟩
  | .hbm, ⟨22, _⟩ => ⟨S_, .i1⟩
  | .hbm, ⟨23, _⟩ => ⟨S8x128, .i1⟩
  | .hbm, ⟨24, _⟩ => ⟨S8x128x256, .f32⟩
  | .hbm, ⟨25, _⟩ => ⟨S8x128x256, .i1⟩
  | .hbm, ⟨26, _⟩ => ⟨S_, .f32⟩
  | .hbm, ⟨27, _⟩ => ⟨S8x128x256, .f32⟩
  | .hbm, ⟨28, _⟩ => ⟨S8x128x256, .f32⟩
  | .hbm, ⟨29, _⟩ => ⟨S_, .i32⟩
  | .hbm, ⟨30, _⟩ => ⟨S8x128, .i32⟩
  | .hbm, ⟨31, _⟩ => ⟨S8x128, .i1⟩
  | .hbm, ⟨32, _⟩ => ⟨S8x128, .i1⟩
  | .hbm, ⟨33, _⟩ => ⟨S8x128x1, .i1⟩
  | .hbm, ⟨34, _⟩ => ⟨S8x128x256, .i1⟩
  | .hbm, ⟨35, _⟩ => ⟨S_, .f32⟩
  | .hbm, ⟨36, _⟩ => ⟨S8x128x256, .f32⟩
  | .hbm, ⟨37, _⟩ => ⟨S8x128x256, .f32⟩
  | .hbm, ⟨38, _⟩ => ⟨S8x128x256, .f32⟩
  | .hbm, ⟨39, _⟩ => ⟨S8x128x256, .f32⟩
  | .hbm, ⟨40, _⟩ => ⟨S8x128x256, .f32⟩
  | .hbm, ⟨41, _⟩ => ⟨S8x128x256, .f32⟩
  | .hbm, ⟨42, _⟩ => ⟨S8x128x256, .f32⟩
  | .hbm, ⟨43, _⟩ => ⟨S_, .f32⟩
  | .hbm, ⟨44, _⟩ => ⟨S8x128x256, .f32⟩
  | .hbm, ⟨45, _⟩ => ⟨S8x128x256, .f32⟩
  | .hbm, ⟨46, _⟩ => ⟨S_, .f32⟩
  | .hbm, ⟨47, _⟩ => ⟨S8x128x256, .f32⟩
  | .hbm, ⟨48, _⟩ => ⟨S8x128x256, .f32⟩
  | .hbm, ⟨49, _⟩ => ⟨S8x128x256, .f32⟩
  | .hbm, ⟨50, _⟩ => ⟨S_, .f32⟩
  | .hbm, ⟨51, _⟩ => ⟨S8x128x256, .f32⟩
  | .hbm, ⟨52, _⟩ => ⟨S8x128x256, .f32⟩
  | .hbm, ⟨53, _⟩ => ⟨S8x128x256, .f32⟩
  | .hbm, ⟨54, _⟩ => ⟨S_, .f32⟩
  | .hbm, ⟨55, _⟩ => ⟨S8x128x256, .f32⟩
  | .hbm, ⟨56, _⟩ => ⟨S8x128x256, .f32⟩
  | .hbm, ⟨57, _⟩ => ⟨S8x128x256, .f32⟩
  | .hbm, ⟨58, _⟩ => ⟨S_, .f32⟩
  | .hbm, ⟨59, _⟩ => ⟨S8x128x256, .f32⟩
  | .hbm, ⟨60, _⟩ => ⟨S8x128x256, .f32⟩
  | .hbm, ⟨61, _⟩ => ⟨S8x128x256, .f32⟩
  | .hbm, ⟨62, _⟩ => ⟨S_, .f32⟩
  | .hbm, ⟨63, _⟩ => ⟨S8x128x256, .f32⟩
  | .hbm, ⟨64, _⟩ => ⟨S8x128x256, .f32⟩
  | .hbm, ⟨65, _⟩ => ⟨S8x128x256, .f32⟩
  | .hbm, ⟨66, _⟩ => ⟨S_, .f32⟩
  | .hbm, ⟨67, _⟩ => ⟨S8x128x256, .f32⟩
  | .hbm, ⟨68, _⟩ => ⟨S8x128x256, .f32⟩
  | .hbm, ⟨69, _⟩ => ⟨S8x128x256, .f32⟩
  | .hbm, ⟨70, _⟩ => ⟨S_, .f32⟩
  | .hbm, ⟨71, _⟩ => ⟨S_, .f32⟩
  | .hbm, ⟨72, _⟩ => ⟨S8x128x256, .f32⟩
  | .hbm, ⟨73, _⟩ => ⟨S8x128x256, .f32⟩
  | .hbm, ⟨74, _⟩ => ⟨S_, .f32⟩
  | .hbm, ⟨75, _⟩ => ⟨S_, .f32⟩
  | .hbm, ⟨76, _⟩ => ⟨S8x128x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_0 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]
-- ==== Proof.Frag.lean ====
/-
  The task each vector subcore runs, regrouped. The printed body is one long straight line cut into parts; here it is
  written as a few FRAGMENTS repeated over the thirty-two (row, target) pairs of the subcore: firing a pair's gathers,
  draining them, accumulating its loss. Every fragment takes the program that follows it, and the theorems below say
  that the printed parts are these fragments in order (`body_eq`).
-/
module

public import proofs.«01_k».proof.KernelIdeal
public import proofs.«01_k».proof.Proof.Gen.KernelIdeal
public import Idealize.ShloMosaic.Lib.SparseCore.Ops

@[expose] public section

noncomputable section

namespace Cert.Proof.Sc

open Cert.KernelIdeal Cert.KernelIdeal.Gen

open Idealize.ShloMosaic Idealize.SL.Sem

variable {F : FTy → Type} [FloatOps F]

/-! ## The operands, as a subcore addresses them -/

/-- The gather table: all of `output`, flat. -/
abbrev tabV : Memref sig .scVector .hbm S33554432 .f32 := Memref.whole main_v0_scv
/-- The row numbers, flat. -/
abbrev indV : Memref sig .scVector .hbm S1024 .i32 := Memref.whole main_v1_scv
/-- The mask, flat. -/
abbrev mskV : Memref sig .scVector .hbm S1024 .i32 := Memref.whole main_v2_scv
/-- The targets, flat. -/
abbrev tgtV : Memref sig .scVector .hbm S262144 .f32 := Memref.whole main_v3_scv
/-- The partial results, a row for each subcore. -/
abbrev outV : Memref sig .scVector .hbm S32x32 .f32 := Memref.whole main_v4_scv
/-- The subcore's own row numbers. -/
abbrev sInd : Memref sig .scVector .vmem S32 .i32 := Memref.whole cc0_scratch0
/-- The subcore's own mask. -/
abbrev sMsk : Memref sig .scVector .vmem S32 .i32 := Memref.whole cc0_scratch1
/-- The subcore's own targets. -/
abbrev sTgt : Memref sig .scVector .vmem S8192 .f32 := Memref.whole cc0_scratch2
/-- The addresses to gather. -/
abbrev sIdx : Memref sig .scVector .vmem S8192 .i32 := Memref.whole cc0_scratch3
/-- What is gathered. -/
abbrev sRow : Memref sig .scVector .vmem S8192 .f32 := Memref.whole cc0_scratch4
/-- The subcore's partial result. -/
abbrev sOut : Memref sig .scVector .vmem S32 .f32 := Memref.whole cc0_scratch5

/-- The operations of the subcore at grid coordinates `i`. -/
abbrev ET (F : FTy → Type) [FloatOps F] (i : grid0.Coords) : Type → Type :=
  TpuEff nD τ sig (Elt F) Λ₀ (.scVector ((i 0).castLE hcore0) ((i 1).castLE hsub0))

variable (i : grid0.Coords) {α β : Type}

/-! ## One pair's gathers -/

/-- The lane numbers. -/
def lanes : IVec S16 32 := iota .scVector S16 32 [0] iota_S16_d0_w32_scVector
/-- The lane numbers, times the length of one channel of the table. -/
def lanesHW : IVec S16 32 := muli lanes (broadcast S16 16384#32)

theorem inb16 (p : Fin 32) (cb : Fin 16) : ∀ a, (![p.val * 256 + cb.val * 16] : Fin 1 → ℕ) a + S16.size a ≤ S8192.size a := by
  intro a; obtain rfl := Subsingleton.elim a 0
  show p.val * 256 + cb.val * 16 + 16 ≤ 8192
  omega
theorem inb128 (p : Fin 32) (h : Fin 2) : ∀ a, (![p.val * 256 + h.val * 128] : Fin 1 → ℕ) a + S128.size a ≤ S8192.size a := by
  intro a; obtain rfl := Subsingleton.elim a 0
  show p.val * 256 + h.val * 128 + 128 ≤ 8192
  omega

/-- Sixteen elements of a scratch of `8192`, for channel block `cb` of pair `p`. -/
abbrev rect16 (p : Fin 32) (cb : Fin 16) : Rect S8192 := Rect.unit (s := S8192) ![p.val * 256 + cb.val * 16] S16.size (inb16 p cb)
/-- Half `h` of pair `p`'s elements of a scratch of `8192`. -/
abbrev rect128 (p : Fin 32) (h : Fin 2) : Rect S8192 := Rect.unit (s := S8192) ![p.val * 256 + h.val * 128] S128.size (inb128 p h)

/-- The addresses of channel block `cb` of the pair whose first channel is at `base`. -/
def addrs (base : BitVec 32) (cb : Fin 16) : IVec S16 32 :=
  shapeCast S16 (addi (broadcast S16 (Scalar.addi base (BitVec.ofNat 32 (cb.val * 262144)))) lanesHW) shapeCasts_S16_S16

/-- Write the addresses of channel block `cb` of pair `p`. -/
def storeIdx (p : Fin 32) (base : BitVec 32) (cb : Fin 16) (k : Prog (ET F i) α) : Prog (ET F i) α :=
  .op (.load sIdx (rect16 p cb).toLoadRect (View.loadsAt_vmem h_S16)) fun _ =>
  .op (.store sIdx (rect16 p cb) (addrs base cb) Finset.univ (View.stores_vmem_bits_univ h_S16 rfl) (.inl rfl)) fun _ => k

/-- The channel blocks in order. -/
def cbs : List (Fin 16) := [0, 1, 2, 3, 4, 5, 6, 7, 8, 9, 10, 11, 12, 13, 14, 15]

/-- Write the addresses of the channel blocks listed. -/
def storeIdxs (p : Fin 32) (base : BitVec 32) (l : List (Fin 16)) (k : Prog (ET F i) α) : Prog (ET F i) α :=
  l.foldr (fun cb k => storeIdx i p base cb k) k

/-- All of the table, as a gather addresses it. -/
abbrev tabAll : Memref sig .scVector .hbm S33554432 .f32 :=
  tabV.slice (Rect.unit (s := S33554432) ![0] S33554432.size inb_S33554432_S33554432_0) (fun _ => rfl)
/-- Half `h` of pair `p`'s gathered elements. -/
abbrev rowHalf (p : Fin 32) (h : Fin 2) : Memref sig .scVector .vmem S128 .f32 := sRow.slice (rect128 p h) (fun _ => rfl)
/-- Half `h` of pair `p`'s addresses. -/
abbrev idxHalf (p : Fin 32) (h : Fin 2) : Memref sig .scVector .vmem S128 .i32 := sIdx.slice (rect128 p h) (fun _ => rfl)

/-- Gather half `h` of pair `p`, signalling `sem`. -/
def gather (sem : DmaSems sig S_) (p : Fin 32) (h : Fin 2) (k : Prog (ET F i) α) : Prog (ET F i) α :=
  SparseCore.enqueueIndirectGather rfl tabAll (rowHalf p h) gathers_S33554432_S128 (idxHalf p h) rfl sem.sem (View.wordExact_bits rfl) rfl (Or.inl rfl)
    >>= fun _ => k

/-- Whether a scalar flag is set, as the kernel tests it. -/
abbrev flag (b : BitVec 1) : BitVec 1 := Scalar.cmpi .ne (Scalar.extui b : BitVec 32) 0#32

/-- If pair `p` is unmasked, write its addresses and start its two gathers on `sem`. -/
def fire (sem : DmaSems sig S_) (live : Fin 32 → BitVec 1) (base : Fin 32 → BitVec 32) (p : Fin 32) (k : Prog (ET F i) α) : Prog (ET F i) α :=
  if flag (live p) = 1#1 then storeIdxs i p (base p) cbs (gather i sem p 0 (gather i sem p 1 k)) else k

/-- Wait for half `h` of pair `p`'s gathers. -/
def waitHalf (sem : DmaSems sig S_) (p : Fin 32) (h : Fin 2) (k : Prog (ET F i) α) : Prog (ET F i) α :=
  .op (.waitDma2 sem.sem tabAll (rowHalf p h) (View.wordExact_bits rfl) (View.wordExact_bits rfl)) fun _ => k

/-- If pair `p` is unmasked, wait for its two gathers. -/
def drain (sem : DmaSems sig S_) (live : Fin 32 → BitVec 1) (p : Fin 32) (k : Prog (ET F i) α) : Prog (ET F i) α :=
  if flag (live p) = 1#1 then waitHalf i sem p 0 (waitHalf i sem p 1 k) else k

/-! ## One pair's loss -/

/-- The elementwise loss of sixteen predictions `x` against sixteen targets `t`, added to `acc`. -/
def bceStep (acc : FVec F S16 .f32) (x t : Vec F S16 .f32) : FVec F S16 .f32 :=
  have v481 : FVec F S16 .f32 := shapeCast S16 x shapeCasts_S16_S16
  have v486 : FVec F S16 .f32 := shapeCast S16 t shapeCasts_S16_S16
  have z : FVec F S16 .f32 := broadcast S16 (Scalar.ofBits .f32 0x00000000#32)
  have e : FVec F S16 .f32 := exp (subf z (absf v481))
  have c (w : BitVec 32) : FVec F S16 .f32 := broadcast S16 (Scalar.ofBits .f32 w)
  addf acc (addf (subf (maximumf v481 z) (mulf v481 v486))
    (addf (mulf (addf (mulf (addf (mulf (addf (mulf (addf (mulf (addf (mulf (c 0xBC8CF7EB#32) e) (c 0x3DA76063#32)) e) (c 0xBE41503F#32)) e)
      (c 0x3EA11203#32)) e) (c 0xBEFE73E4#32)) e) (c 0x3F7FF266#32)) e) (c 0x366B6349#32)))

/-- The offset of channel block `t` of pair `p`, as the kernel computes it. -/
def cOff (p : Fin 32) (t : Fin k0_t1_loop.trips) : Fin 1 → ℕ :=
  ![(Scalar.indexCast (Scalar.addi (BitVec.ofNat 32 (p.val * 256)) (Scalar.muli (Scf.iv 0#32 1#32 t : BitVec 32) 16#32)) : Index).toNat]

theorem trips_eq : k0_t1_loop.trips = 16 := by decide +kernel

theorem cOff_eq : ∀ (p : Fin 32) (t : Fin k0_t1_loop.trips), cOff p t = ![p.val * 256 + t.val * 16] := by decide +kernel

theorem cOff_inb (p : Fin 32) (t : Fin k0_t1_loop.trips) : ∀ a, cOff p t a + S16.size a ≤ S8192.size a := by
  rw [cOff_eq]; exact inb16 p (t.cast trips_eq)

abbrev rectC (p : Fin 32) (t : Fin k0_t1_loop.trips) : Rect S8192 := Rect.unit (s := S8192) (cOff p t) S16.size (cOff_inb p t)

/-- The zero vector. -/
def zero16 : FVec F S16 .f32 := broadcast S16 (Scalar.ofBits .f32 0x00000000#32)

/-- One trip of a pair's loop: sixteen channels added to the accumulator. -/
def trip (p : Fin 32) (t : Fin k0_t1_loop.trips) (acc : FVec F S16 .f32) : Prog (ET F i) (FVec F S16 .f32) :=
  .op (.load sRow (rectC p t).toLoadRect (View.loadsAt_vmem h_S16)) fun x =>
  .op (.load sTgt (rectC p t).toLoadRect (View.loadsAt_vmem h_S16)) fun y => .ret (bceStep acc x y)

abbrev rectLo : Rect S32 := Rect.unit (s := S32) ![0] S16.size inb_S32_S16_0
abbrev rectHi : Rect S32 := Rect.unit (s := S32) ![16] S16.size inb_S32_S16_16

/-- The pair's loss added to the first half of the partial result. -/
def addOut (a : FVec F S16 .f32) (k : Prog (ET F i) α) : Prog (ET F i) α :=
  .op (.load sOut rectLo.toLoadRect (View.loadsAt_vmem h_S16)) fun x =>
  .op (.load sOut rectLo.toLoadRect (View.loadsAt_vmem h_S16)) fun _ =>
  .op (.store sOut rectLo (shapeCast S16 (addf (shapeCast S16 x shapeCasts_S16_S16 : FVec F S16 .f32) a) shapeCasts_S16_S16) Finset.univ
    (View.stores_vmem_bits_univ h_S16 rfl) (.inl rfl)) fun _ => k

/-- If pair `p` is unmasked, add its loss to the partial result. -/
def compute (live : Fin 32 → BitVec 1) (p : Fin 32) (k : Prog (ET F i) α) : Prog (ET F i) α :=
  if flag (live p) = 1#1 then Scf.Loop.for k0_t1_loop k0_t1_ok zero16 (trip i p) >>= fun a => addOut i a k else k

/-! ## A fragment over a list of pairs -/

def fires (sem : DmaSems sig S_) (live : Fin 32 → BitVec 1) (base : Fin 32 → BitVec 32) (l : List (Fin 32)) (k : Prog (ET F i) α) : Prog (ET F i) α :=
  l.foldr (fun p k => fire i sem live base p k) k
def drains (sem : DmaSems sig S_) (live : Fin 32 → BitVec 1) (l : List (Fin 32)) (k : Prog (ET F i) α) : Prog (ET F i) α :=
  l.foldr (fun p k => drain i sem live p k) k
def computes (live : Fin 32 → BitVec 1) (l : List (Fin 32)) (k : Prog (ET F i) α) : Prog (ET F i) α :=
  l.foldr (fun p k => compute i live p k) k

/-- Zero the first half of the partial result, then wait for the targets. -/
def zeroWait (k : Prog (ET F i) α) : Prog (ET F i) α :=
  .op (.load sOut rectLo.toLoadRect (View.loadsAt_vmem h_S16)) fun _ =>
  .op (.store sOut rectLo (shapeCast S16 (zero16 (F := F)) shapeCasts_S16_S16) Finset.univ (View.stores_vmem_bits_univ h_S16 rfl) (.inl rfl)) fun _ =>
  .op (.waitDma2 cc0_scratch8.sem (tgtV.slice (Rect.unit (s := S262144) (k0_off3 i) S8192.size (k0_off3_inb i)) (fun _ => rfl)) sTgt
    (View.wordExact_bits rfl) (Memref.isWhole_whole _).wordExact) fun _ => k

theorem storeIdxs_bind (p : Fin 32) (base : BitVec 32) (l : List (Fin 16)) (k : Prog (ET F i) α) (f : α → Prog (ET F i) β) :
    storeIdxs i p base l k >>= f = storeIdxs i p base l (k >>= f) := by
  induction l with
  | nil => rfl
  | cons cb l ih => exact congrArg (storeIdx i p base cb) ih

theorem gather_bind (sem : DmaSems sig S_) (p : Fin 32) (h : Fin 2) (k : Prog (ET F i) α) (f : α → Prog (ET F i) β) :
    gather i sem p h k >>= f = gather i sem p h (k >>= f) := rfl

theorem fire_bind (sem : DmaSems sig S_) (live : Fin 32 → BitVec 1) (base : Fin 32 → BitVec 32) (p : Fin 32) (k : Prog (ET F i) α) (f : α → Prog (ET F i) β) :
    fire i sem live base p k >>= f = fire i sem live base p (k >>= f) := by
  unfold fire; split
  · rw [storeIdxs_bind]; rfl
  · rfl

theorem drain_bind (sem : DmaSems sig S_) (live : Fin 32 → BitVec 1) (p : Fin 32) (k : Prog (ET F i) α) (f : α → Prog (ET F i) β) :
    drain i sem live p k >>= f = drain i sem live p (k >>= f) := by
  unfold drain; split <;> rfl

theorem compute_bind (live : Fin 32 → BitVec 1) (p : Fin 32) (k : Prog (ET F i) α) (f : α → Prog (ET F i) β) :
    compute i live p k >>= f = compute i live p (k >>= f) := by
  unfold compute; split
  · rw [Prog.bind_assoc]; rfl
  · rfl

theorem fires_bind (sem : DmaSems sig S_) (live : Fin 32 → BitVec 1) (base : Fin 32 → BitVec 32) (l : List (Fin 32)) (k : Prog (ET F i) α) (f : α → Prog (ET F i) β) :
    fires i sem live base l k >>= f = fires i sem live base l (k >>= f) := by
  induction l with
  | nil => rfl
  | cons p l ih => exact (fire_bind i sem live base p _ f).trans (congrArg (fire i sem live base p) ih)
theorem drains_bind (sem : DmaSems sig S_) (live : Fin 32 → BitVec 1) (l : List (Fin 32)) (k : Prog (ET F i) α) (f : α → Prog (ET F i) β) :
    drains i sem live l k >>= f = drains i sem live l (k >>= f) := by
  induction l with
  | nil => rfl
  | cons p l ih => exact (drain_bind i sem live p _ f).trans (congrArg (drain i sem live p) ih)
theorem computes_bind (live : Fin 32 → BitVec 1) (l : List (Fin 32)) (k : Prog (ET F i) α) (f : α → Prog (ET F i) β) :
    computes i live l k >>= f = computes i live l (k >>= f) := by
  induction l with
  | nil => rfl
  | cons p l ih => exact (compute_bind i live p _ f).trans (congrArg (compute i live p) ih)

/-! ## The printed parts are these fragments -/

/-- Lane `k` of a vector of sixteen words. -/
def lane (v : IVec S16 32) (k : Fin 16) : BitVec 32 :=
  extractAt ![0] (extractStridedSlice S1 ![k.val] v (by
    revert k; decide)) inpos_S1_p0

/-- Lane `p` of thirty-two words in two vectors. -/
def lane2 (v w : IVec S16 32) (p : Fin 32) : BitVec 32 :=
  if h : p.val < 16 then lane v ⟨p.val, h⟩ else lane w ⟨p.val - 16, by omega⟩

/-- Whether pair `p` is unmasked, by the mask's two vectors. -/
def lives (m0 m1 : IVec S16 32) (p : Fin 32) : BitVec 1 := Scalar.cmpi .ne (lane2 m0 m1 p) 0#32

/-- One for an unmasked pair, else zero. -/
def one (b : BitVec 1) : BitVec 32 := Scalar.select b 1#32 0#32
/-- `n` and the number of unmasked pairs listed. -/
def counts (lv : Fin 32 → BitVec 1) (l : List (Fin 32)) (n : BitVec 32) : BitVec 32 := l.foldl (fun n p => Scalar.addi n (one (lv p))) n

set_option maxRecDepth 65536

/-- Pairs 0 to 4 are fired. -/
theorem part66_eq (m0 m1 b0 x y z : IVec S16 32) :
    k0_part66 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m0 b0 x y z
    = fires i cc0_scratch6 (lives m0 m1) (lane2 b0 (addi (muli y z) x)) [0, 1, 2, 3, 4]
        (.ret ⟨addi (muli y z) x, lives m0 m1 0, lives m0 m1 1, lives m0 m1 2, lives m0 m1 3, lives m0 m1 4, lives m0 m1 5,
          lane2 b0 (addi (muli y z) x) 5, Scalar.extui (lives m0 m1 5), 0#32⟩) := rfl

/-- Pairs 5 to 10 are fired. -/
theorem part67_eq (m0 m1 b0 b1 : IVec S16 32) :
    k0_part67 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m0 b0 (lane2 b0 b1 5) (Scalar.extui (lives m0 m1 5)) 0#32
    = fires i cc0_scratch6 (lives m0 m1) (lane2 b0 b1) [5, 6, 7, 8, 9, 10]
        (.ret ⟨lives m0 m1 6, lives m0 m1 7, lives m0 m1 8, lives m0 m1 9, lives m0 m1 10, lives m0 m1 11, lane2 b0 b1 11, Scalar.extui (lives m0 m1 11), 0#32⟩) := rfl

/-- Pairs 11 to 16 are fired. -/
theorem part68_eq (m0 m1 b0 b1 : IVec S16 32) :
    k0_part68 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m0 b0 m1 b1 (lane2 b0 b1 11) (Scalar.extui (lives m0 m1 11)) 0#32
    = fires i cc0_scratch6 (lives m0 m1) (lane2 b0 b1) [11, 12, 13, 14, 15] (fires i cc0_scratch7 (lives m0 m1) (lane2 b0 b1) [16]
        (.ret ⟨lives m0 m1 12, lives m0 m1 13, lives m0 m1 14, lives m0 m1 15, lives m0 m1 16, lives m0 m1 17, lane2 b0 b1 17, Scalar.extui (lives m0 m1 17), 0#32⟩)) := rfl

/-- Pairs 17 to 22 are fired. -/
theorem part69_eq (m0 m1 b0 b1 : IVec S16 32) :
    k0_part69 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m1 b1 (lane2 b0 b1 17) (Scalar.extui (lives m0 m1 17)) 0#32
    = fires i cc0_scratch7 (lives m0 m1) (lane2 b0 b1) [17, 18, 19, 20, 21, 22]
        (.ret ⟨lives m0 m1 18, lives m0 m1 19, lives m0 m1 20, lives m0 m1 21, lives m0 m1 22, lives m0 m1 23, lane2 b0 b1 23, Scalar.extui (lives m0 m1 23), 0#32⟩) := rfl

/-- Pairs 23 to 28 are fired. -/
theorem part70_eq (m0 m1 b0 b1 : IVec S16 32) :
    k0_part70 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m1 b1 (lane2 b0 b1 23) (Scalar.extui (lives m0 m1 23)) 0#32
    = fires i cc0_scratch7 (lives m0 m1) (lane2 b0 b1) [23, 24, 25, 26, 27, 28]
        (.ret ⟨lives m0 m1 24, lives m0 m1 25, lives m0 m1 26, lives m0 m1 27, lives m0 m1 28, lives m0 m1 29, lane2 b0 b1 29, Scalar.extui (lives m0 m1 29), 0#32⟩) := rfl

/-- The last pairs are fired, the partial result zeroed, the targets awaited, pairs 0 to 6 drained. -/
theorem part71_eq (m0 m1 b0 b1 : IVec S16 32) :
    k0_part71 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanesHW m1 b1 (lives m0 m1 0) (lives m0 m1 1) (lives m0 m1 2) (lives m0 m1 3) (lives m0 m1 4) (lives m0 m1 5) (lives m0 m1 6) (lane2 b0 b1 29) (Scalar.extui (lives m0 m1 29)) 0#32
    = fires i cc0_scratch7 (lives m0 m1) (lane2 b0 b1) [29, 30, 31] (zeroWait i (drains i cc0_scratch6 (lives m0 m1) [0, 1, 2, 3, 4, 5, 6]
        (.ret ⟨lives m0 m1 30, lives m0 m1 31⟩))) := rfl

/-- Pairs 7 to 15 are drained, pairs 0 to 5 accumulated. -/
theorem part72_eq (lv : Fin 32 → BitVec 1) :
    k0_part72 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      (lv 0) (lv 1) (lv 2) (lv 3) (lv 4) (lv 5) (lv 7) (lv 8) (lv 9) (lv 10) (lv 11) (lv 12) (lv 13) (lv 14) (lv 15)
    = drains i cc0_scratch6 lv [7, 8, 9, 10, 11, 12, 13, 14, 15] (computes i lv [0, 1, 2, 3, 4, 5] (.ret ⟨⟩)) := rfl

/-- Pairs 6 to 15 are accumulated, pairs 16 to 20 drained. -/
theorem part73_eq (lv : Fin 32 → BitVec 1) :
    k0_part73 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      (lv 6) (lv 7) (lv 8) (lv 9) (lv 10) (lv 11) (lv 12) (lv 13) (lv 14) (lv 15) (lv 16) (lv 17) (lv 18) (lv 19) (lv 20)
    = computes i lv [6, 7, 8, 9, 10, 11, 12, 13, 14, 15] (drains i cc0_scratch7 lv [16, 17, 18, 19, 20] (.ret ⟨⟩)) := rfl

/-- Pairs 21 to 31 are drained, pairs 16 to 19 accumulated. -/
theorem part74_eq (lv : Fin 32 → BitVec 1) :
    k0_part74 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      (lv 16) (lv 17) (lv 18) (lv 19) (lv 21) (lv 22) (lv 23) (lv 24) (lv 25) (lv 26) (lv 27) (lv 28) (lv 29) (lv 30) (lv 31)
    = drains i cc0_scratch7 lv [21, 22, 23, 24, 25, 26, 27, 28, 29, 30, 31] (computes i lv [16, 17, 18, 19] (.ret ⟨⟩)) := rfl

/-- Pairs 20 to 31 are accumulated, and the count is begun. -/
theorem part75_eq (lv : Fin 32 → BitVec 1) :
    k0_part75 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      (lv 0) (lv 1) (lv 2) (lv 20) (lv 21) (lv 22) (lv 23) (lv 24) (lv 25) (lv 26) (lv 27) (lv 28) (lv 29) (lv 30) (lv 31)
    = computes i lv [20, 21, 22, 23, 24, 25, 26, 27, 28, 29, 30, 31] (.ret ⟨counts lv [0, 1] 0#32, one (lv 2)⟩) := rfl

/-- The count goes on. -/
theorem part76_eq (lv : Fin 32 → BitVec 1) (n : BitVec 32) :
    k0_part76 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      (lv 3) (lv 4) (lv 5) (lv 6) (lv 7) (lv 8) (lv 9) (lv 10) (lv 11) (lv 12) (lv 13) (lv 14) (lv 15) (lv 16) (lv 17) n (one (lv 2))
    = .ret ⟨counts lv [2, 3, 4, 5, 6, 7, 8, 9, 10, 11, 12, 13, 14, 15, 16] n, one (lv 17)⟩ := rfl

/-- The count ends. -/
theorem part77_eq (lv : Fin 32 → BitVec 1) (n : BitVec 32) :
    k0_part77 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2
      lanes (lv 18) (lv 19) (lv 20) (lv 21) (lv 22) (lv 23) (lv 24) (lv 25) (lv 26) (lv 27) (lv 28) (lv 29) (lv 30) (lv 31) n (one (lv 17))
    = .ret ⟨counts lv [17, 18, 19, 20, 21, 22, 23, 24, 25, 26, 27, 28, 29, 30, 31] n, cmpi .eq lanes (broadcast S16 0#32)⟩ := rfl

/-! ## The whole task -/

/-- A subcore's first pair. -/
def firstPair (i : grid0.Coords) : BitVec 32 :=
  Scalar.muli (Scalar.addi (Scalar.muli (BitVec.ofNat 32 (i 1).val) 2#32) (BitVec.ofNat 32 (i 0).val)) 32#32

/-- Where the table's first channel of sixteen pairs starts, from `off` after the subcore's first pair, given their row numbers. -/
def bases (i : grid0.Coords) (off : BitVec 32) (x : Vec F S16 .i32) : IVec S16 32 :=
  addi (muli (shrui (addi (broadcast S16 (Scalar.addi (firstPair i) off)) lanes) (broadcast S16 7#32)) (broadcast S16 4194304#32))
    (shapeCast S16 x shapeCasts_S16_S16 : IVec S16 32)

/-- The pairs that signal the first semaphore, in order. -/
def lo : List (Fin 32) := [0, 1, 2, 3, 4, 5, 6, 7, 8, 9, 10, 11, 12, 13, 14, 15]
/-- The pairs that signal the second, in order. -/
def hi : List (Fin 32) := [16, 17, 18, 19, 20, 21, 22, 23, 24, 25, 26, 27, 28, 29, 30, 31]

/-- This subcore's slice of the row numbers or of the mask. -/
abbrev indAt : Memref sig .scVector .hbm S32 .i32 := indV.slice (Rect.unit (s := S1024) (k0_off1 i) S32.size (k0_off1_inb i)) (fun _ => rfl)
abbrev mskAt : Memref sig .scVector .hbm S32 .i32 := mskV.slice (Rect.unit (s := S1024) (k0_off1 i) S32.size (k0_off1_inb i)) (fun _ => rfl)
/-- This subcore's targets. -/
abbrev tgtAt : Memref sig .scVector .hbm S8192 .f32 := tgtV.slice (Rect.unit (s := S262144) (k0_off2 i) S8192.size (k0_off2_inb i)) (fun _ => rfl)
/-- This subcore's row of the partial results. -/
abbrev outAt : Memref sig .scVector .hbm S32 .f32 :=
  (outV.slice (Rect.unit (s := S32x32) (k0_off36 i) S1x32.size (k0_off36_inb i)) (fun _ => rfl)).squeeze S32 squeezes_S1x32_S32

/-- The copies in, and the loads of the row numbers and of the mask. -/
def start (k : Vec F S16 .i32 → Vec F S16 .i32 → Vec F S16 .i32 → Vec F S16 .i32 → Prog (ET F i) α) : Prog (ET F i) α :=
  .op (.enqueueDma (indAt i) (.here sInd) (.dma cc0_scoped0.sem) (View.wordExact_bits rfl) (Memref.isWhole_whole _).wordExact ⟨Or.inl rfl, trivial⟩) fun _ =>
  .op (.waitDma2 cc0_scoped0.sem (indAt i) sInd (View.wordExact_bits rfl) (Memref.isWhole_whole _).wordExact) fun _ =>
  .op (.enqueueDma (mskAt i) (.here sMsk) (.dma cc0_scoped1.sem) (View.wordExact_bits rfl) (Memref.isWhole_whole _).wordExact ⟨Or.inl rfl, trivial⟩) fun _ =>
  .op (.waitDma2 cc0_scoped1.sem (mskAt i) sMsk (View.wordExact_bits rfl) (Memref.isWhole_whole _).wordExact) fun _ =>
  .op (.enqueueDma (tgtAt i) (.here sTgt) (.dma cc0_scratch8.sem) (View.wordExact_bits rfl) (Memref.isWhole_whole _).wordExact ⟨Or.inl rfl, trivial⟩) fun _ =>
  .op (.load sInd rectLo.toLoadRect (View.loadsAt_vmem h_S16)) fun x0 =>
  .op (.load sMsk rectLo.toLoadRect (View.loadsAt_vmem h_S16)) fun y0 =>
  .op (.load sInd rectHi.toLoadRect (View.loadsAt_vmem h_S16)) fun x1 =>
  .op (.load sMsk rectHi.toLoadRect (View.loadsAt_vmem h_S16)) fun y1 => k x0 y0 x1 y1

/-- The count in lane 0, zero elsewhere. -/
def countVec (n : BitVec 32) : FVec F S16 .f32 :=
  select (cmpi .eq lanes (broadcast S16 0#32)) (addf (mulf (sitofp .f32 lanes) zero16) (broadcast S16 (Scalar.sitofp .f32 n))) zero16

/-- Store the count, and copy the partial result out. -/
def finish (n : BitVec 32) : Prog (ET F i) PUnit :=
  .op (.load sOut rectHi.toLoadRect (View.loadsAt_vmem h_S16)) fun _ =>
  .op (.store sOut rectHi (shapeCast S16 (countVec (F := F) n) shapeCasts_S16_S16) Finset.univ (View.stores_vmem_bits_univ h_S16 rfl) (.inl rfl)) fun _ =>
  .op (.enqueueDma sOut (.here (outAt i)) (.dma cc0_scoped2.sem) (Memref.isWhole_whole _).wordExact ((View.wordExact_bits rfl).reshape _ _)
    ⟨Or.inl rfl, trivial⟩) fun _ =>
  .op (.waitDma2 cc0_scoped2.sem sOut (outAt i) (Memref.isWhole_whole _).wordExact ((View.wordExact_bits rfl).reshape _ _)) fun _ => .ret ⟨⟩

/-- What follows the loads: every pair is fired, then drained and accumulated in two halves, and the result copied out. -/
def rest (lv : Fin 32 → BitVec 1) (base : Fin 32 → BitVec 32) : Prog (ET F i) PUnit :=
  fires i cc0_scratch6 lv base lo (fires i cc0_scratch7 lv base hi (zeroWait i
    (drains i cc0_scratch6 lv lo (computes i lv lo (drains i cc0_scratch7 lv hi (computes i lv hi
      (finish i (counts lv (lo ++ hi) 0#32))))))))

/-- The task, regrouped. -/
def task : Prog (ET F i) PUnit :=
  start i fun x0 y0 x1 y1 => rest i
    (lives (shapeCast S16 y0 shapeCasts_S16_S16) (shapeCast S16 y1 shapeCasts_S16_S16)) (lane2 (bases i 0#32 x0) (bases i 16#32 x1))

end Cert.Proof.Sc
-- ==== Proof.GatherBatch.lean ====
/-
  Several indirect gathers outstanding on one semaphore. Each row of a gather is one transfer of a BATCH (`Transfers.Batch`):
  the rows' deliveries are fixed when the batch is allocated, a gather issues the next `o` of them at once, and once every
  row's credit has been waited for the deliveries all come back together.
-/
module

public import Idealize.ShloMosaic.Lib.SparseCore.Stream
public import Idealize.ShloMosaic.Lib.Batch
public import Idealize.ShloMosaic.Lib.Pipeline.BigSepL

@[expose] public section

noncomputable section

namespace Cert.Proof.Sc

open Idealize.ShloMosaic Idealize.ShloMosaic.SparseCore
open Idealize.SL
open Idealize.SL.BI (sProp Storable bigSep bigSepL)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The issue rights pending from `k` are the next `m` of them and those pending from `k + m`. -/
theorem bigSep_pending_block {n : ℕ} (Φ : Fin n → sProp 𝕄) : ∀ (m k : ℕ) (h : k + m ≤ n),
    bigSep (Transfers.pending k) Φ
      = iprop(bigSep Finset.univ (fun j : Fin m => Φ ⟨k + j.val, by omega⟩) ∗ bigSep (Transfers.pending (k + m)) Φ)
  | 0, k, _ => by
    rw [Finset.univ_eq_empty, BI.bigSep_empty]
    exact (BI.equiv_iff.mp BI.emp_sep).symm
  | m + 1, k, h => by
    rw [Transfers.bigSep_pending_step Φ k (by omega), bigSep_pending_block Φ m (k + 1) (by omega), bigSep_univ_succ]
    have e1 : (fun j : Fin m => Φ ⟨k + 1 + j.val, by omega⟩) = fun j : Fin m => Φ ⟨k + (j.succ : Fin (m + 1)).val, by have := j.isLt; simp; omega⟩ := by
      funext j; congr 2; simp; omega
    have e2 : k + 1 + m = k + (m + 1) := by omega
    rw [e1, e2]
    exact (BI.equiv_iff.mp ⟨BI.sep_assoc, BI.sep_assoc'⟩).symm

/-- An indirect gather issued as the next `o` transfers of a batch, `o` its rows, each of `N` units. It is handed, row by
    row, the row of the destination outright, the entry of the address list at a share, and a share of the source; row
    `j`'s delivery — the row written with the source's row that entry `j` names, and the shares back — must entail the
    batch's delivery `k + j`. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (hin : ∀ x, (offs.view.read (Elt F) fo x).toNat < s₀.size hg.axis)
    {n : ℕ} {D : Fin n → sProp 𝕄} {m : ℕ} (hm : m + s.size hg.axis' ≤ n)
    (hD : ∀ j : Fin (s.size hg.axis'),
      iprop(((dst.view.loc c ↦[(dst.view.slice (s.rowRect hg.axis' j)).set]{fullShare} ((dst.view.slice (s.rowRect hg.axis' j)).write (Elt F) fd
            (fun i => src.view.read (Elt F) fs (hg.rowIdx (rows (offs.view.read (Elt F) fo) hn hin j) i)) Finset.univ))
          ∗ (offs.view.loc c ↦[{offs.view.emb (si.rowMajor.symm (j.cast hn.symm))}]{qo} fo)) ∗ (src.view.loc c ↦[src.view.set]{qk j} fs))
        ⊢ D ⟨m + j.val, by omega⟩) :
    iprop(bigSep Finset.univ (fun j : Fin (s.size hg.axis') =>
          iprop(((dst.view.loc c ↦[(dst.view.slice (s.rowRect hg.axis' j)).set]{fullShare} fd)
            ∗ (offs.view.loc c ↦[{offs.view.emb (si.rowMajor.symm (j.cast hn.symm))}]{qo} fo)) ∗ (src.view.loc c ↦[src.view.set]{qk j} fs)))
        ∗ Transfers.Batch EC c (.dma sem) ι N D m 0)
      ⊢ iprop((Transfers.Batch EC c (.dma sem) ι N D (m + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hres, ⟨%γ, %γ₀, %κ, #Hinv, HI, H0, Hc⟩⟩ Hk
  ihave HI' := (Entails.of_eq (bigSep_pending_block (fun t => count EC (γ t) 0) _ m hm)) $$ HI
  icases HI' with ⟨Hγ, HI⟩
  iapply (wp_enqueueIndirectDma 𝒱 c bd Set.univ (qo := qo) (fo := fo) (rd := rd) ι _ hA hrd hsum) $$ [Hres Hγ]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (si.rowMajor.symm (j.cast hn.symm))}]{qo} fo))
          ∗ (src.view.loc c ↦[src.view.set]{qk j} fs)) ∗ count EC (γ ⟨m + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists qk j, fs, iprop((dst.view.loc c ↦[(dst.view.slice (s.rowRect hg.axis' j)).set]{fullShare} ((dst.view.slice (s.rowRect hg.axis' j)).write (Elt F) fd
            (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := (Transfers.batch_creditUpdate EC (ι := κ) (g := (c, SemLoc.dma sem)) (N := N) (D := D) (γ := γ) (γ₀ := γ₀) ⟨m + j.val, by omega⟩ (hD j)).trans
          (Entails.of_eq (congrArg (fun x => creditUpdate (c, SemLoc.dma sem) x 0 _) (hN j).symm))
        iapply hcu
        isplitr; · iexact Hinv
        iexact Hγj
    unfold Stream.res
    ihave H3 := Transfers.bigSep_sep_in _ _ _ $$ [Hres Hγ]; · isplitl [Hres] <;> iassumption
    iapply (Transfers.bigSep_mono_pers Finset.univ _ _ _ fun j _ => hrow j)
    isplitr; · iexact Hinv
    iexact H3
  · iintro Hcred
    iapply Hk
    iexists γ, γ₀, κ
    isplitr; · iexact Hinv
    isplitl [HI]; · iexact HI
    isplitl [H0]; · iexact H0
    have hadd : m * N - 0 + s.size hg.axis' * N = (m + s.size hg.axis') * N - 0 := by rw [Nat.sub_zero, Nat.sub_zero, Nat.add_mul]
    rw [← hadd, ← tallyAt_add]
    iapply (cred_add _ _).2
    isplitl [Hc] <;> iassumption

/-- A family over the indices of `l` blocks of `b` is a family of families. -/
theorem bigSep_blocks (b l : ℕ) (Ψ : ℕ → sProp 𝕄) :
    bigSep Finset.univ (fun t : Fin (l * b) => Ψ t.val) = bigSep Finset.univ (fun x : Fin l => bigSep Finset.univ fun r : Fin b => Ψ (r.val + b * x.val)) := by
  rw [← BI.bigSep_univ_prod (fun x : Fin l × Fin b => Ψ (x.2.val + b * x.1.val)),
    BI.bigSep_univ_equiv finProdFinEquiv (fun t : Fin (l * b) => Ψ t.val)]
  rfl

/-- A family over the positions of a list is the list's chain. -/
theorem bigSep_get {I : Type} (Φ : I → sProp 𝕄) : ∀ l : List I,
    bigSep Finset.univ (fun x : Fin l.length => Φ (l.get x)) = bigSepL l Φ
  | [] => rfl
  | i :: l => by
    rw [BI.bigSepL_cons, ← bigSep_get Φ l]
    exact bigSep_univ_succ (Ix := Ix) (Name := Name) (U := U) (Lvl := Lvl) (m := l.length) (fun x => Φ ((i :: l).get x))

end Cert.Proof.Sc
-- ==== Proof.Pair.lean ====
/-
  What a vector subcore holds of its scratches, pair by pair and element by element, and what its gathers deliver.
-/
module

public import Idealize.ShloMosaic.Lib.SparseCore.Quiescent
public import Idealize.ShloMosaic.Lib.SparseCore.Stream
public import Idealize.ShloMosaic.Lib.Pipeline.Kit
public import Idealize.ShloMosaic.Lib.Batch
public import Idealize.ShloMosaic.Lib.Tactic
public import Idealize.ShloMosaic.Lib.ViewIndex
public import proofs.«01_k».proof.Proof.Frag
public import proofs.«01_k».proof.Proof.GatherBatch

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters
abbrev 𝒱₀ : Variants := Variants.none

local notation "𝕄" => MT nD τ sig (HIx 1) (Elt F) ℕ UU ℕ

/-- The thread of the subcore at grid coordinates `i`. -/
abbrev thr (d : Dev nD) (i : grid0.Coords) : Thread nD τ := V d ((i 0).castLE hcore0) ((i 1).castLE hsub0)

/-! ## The elements of a pair -/

/-- Element `r` of pair `p` in a scratch of `8192`. -/
def xAt (p : Fin 32) (r : Fin 256) : S8192.Idx := fun a => ⟨p.val * 256 + r.val, by
  obtain rfl := Subsingleton.elim a 0; show _ < 8192; omega⟩
/-- The pair an element belongs to. -/
def pairOf (x : S8192.Idx) : Fin 32 := ⟨(x 0).val / 256, by have : (x 0).val < 8192 := (x 0).isLt; omega⟩
/-- The channel block, within its pair, an element belongs to. -/
def blockOf (x : S8192.Idx) : Fin 16 := ⟨(x 0).val % 256 / 16, by omega⟩
/-- The lane of an element. -/
def laneOf (x : S8192.Idx) : S16.Idx := fun a => ⟨(x 0).val % 16, by obtain rfl := Subsingleton.elim a 0; exact Nat.mod_lt _ (by decide)⟩

/-- The elements of pair `p`. -/
def pairSet (p : Fin 32) : Finset S8192.Idx := Finset.univ.filter fun x => pairOf x = p

theorem mem_pairSet {p : Fin 32} {x : S8192.Idx} : x ∈ pairSet p ↔ pairOf x = p := by simp [pairSet]

theorem ext8192 {x y : S8192.Idx} (h : (x 0).val = (y 0).val) : x = y := by
  funext a; obtain rfl := Subsingleton.elim a 0; exact Fin.ext h
theorem ext16 {x y : S16.Idx} (h : (x 0).val = (y 0).val) : x = y := by
  funext a; obtain rfl := Subsingleton.elim a 0; exact Fin.ext h

theorem pairSet_eq (p : Fin 32) : pairSet p = Finset.univ.biUnion fun r : Fin 256 => {xAt p r} := by
  ext x
  simp only [mem_pairSet, Finset.mem_biUnion, Finset.mem_univ, true_and, Finset.mem_singleton]
  constructor
  · rintro rfl
    refine ⟨⟨(x 0).val % 256, Nat.mod_lt _ (by decide)⟩, ext8192 ?_⟩
    show (x 0).val = (x 0).val / 256 * 256 + (x 0).val % 256
    omega
  · rintro ⟨r, rfl⟩
    apply Fin.ext; show (p.val * 256 + r.val) / 256 = p.val
    omega

theorem xAt_disjoint (p : Fin 32) : ∀ r ∈ (Finset.univ : Finset (Fin 256)), ∀ r' ∈ (Finset.univ : Finset (Fin 256)), r ≠ r' →
    Disjoint ({xAt p r} : Finset S8192.Idx) {xAt p r'} := by
  intro r _ r' _ h
  rw [Finset.disjoint_singleton]
  intro e
  have : p.val * 256 + r.val = p.val * 256 + r'.val := congrArg (fun x : S8192.Idx => (x 0).val) e
  exact h (Fin.ext (by omega))

theorem pairSet_disjoint : ∀ p ∈ (Finset.univ : Finset (Fin 32)), ∀ p' ∈ (Finset.univ : Finset (Fin 32)), p ≠ p' →
    Disjoint (pairSet p) (pairSet p') := by
  intro p _ p' _ h
  rw [Finset.disjoint_left]
  intro x hx hx'
  exact h ((mem_pairSet.mp hx).symm.trans (mem_pairSet.mp hx'))

theorem pairSet_cover : (Finset.univ : Finset (Fin 32)).biUnion pairSet = Finset.univ := by
  ext x; simp [mem_pairSet]

/-! ## Sixteen elements at a time -/

theorem emb16 (p : Fin 32) (cb : Fin 16) (y : S16.Idx) : (((rect16 p cb).emb y : S8192.Idx) 0).val = p.val * 256 + cb.val * 16 + (y 0).val := by
  show p.val * 256 + cb.val * 16 + 1 * (y 0).val = _
  omega

theorem emb16_laneOf {p : Fin 32} {cb : Fin 16} {x : S8192.Idx} (hp : pairOf x = p) (hc : blockOf x = cb) : (rect16 p cb).emb (laneOf x) = x := by
  subst hp hc
  refine ext8192 ?_
  rw [emb16]
  show (x 0).val / 256 * 256 + (x 0).val % 256 / 16 * 16 + (x 0).val % 16 = (x 0).val
  omega

theorem mem16 {p : Fin 32} {cb : Fin 16} {x : S8192.Idx} : x ∈ (rect16 p cb).set ↔ pairOf x = p ∧ blockOf x = cb := by
  constructor
  · intro h
    obtain ⟨y, rfl⟩ := (rect16 p cb).exists_idx_of_mem h
    have hy : (y 0).val < 16 := (y 0).isLt
    have e : (((rect16 p cb).idx y : S8192.Idx) 0).val = _ := emb16 p cb y
    constructor <;> apply Fin.ext
    · show _ / 256 = _; rw [e]; omega
    · show _ % 256 / 16 = _; rw [e]; omega
  · rintro ⟨hp, hc⟩
    exact (emb16_laneOf hp hc) ▸ (rect16 p cb).idx_mem (laneOf x)

theorem set16_subset (p : Fin 32) (cb : Fin 16) : (rect16 p cb).set ⊆ pairSet p := by
  intro x h
  rw [mem_pairSet]
  exact (mem16.mp h).1

variable [FloatOps F]

/-- The address word written at an element of the address scratch, by the pairs' base addresses. -/
def idxW (base : Fin 32 → BitVec 32) (x : S8192.Idx) : BitVec 32 := addrs (base (pairOf x)) (blockOf x) (laneOf x)

/-- The element of the table a word addresses. -/
def tabIx (w : BitVec 32) : S33554432.Idx := fun a => ⟨w.toNat % 33554432, by
  obtain rfl := Subsingleton.elim a 0; exact Nat.mod_lt _ (by decide)⟩

/-- What the gathers bring: at each element the table at its address. -/
def gath (base : Fin 32 → BitVec 32) (ft : S33554432.Idx → Elt F .f32) (x : S8192.Idx) : Elt F .f32 := ft (tabIx (idxW base x))

/-- A store of sixteen addresses. -/
theorem write16 (f : S8192.Idx → BitVec 32) (w : S16.Idx → BitVec 32) (p : Fin 32) (cb : Fin 16) (x : S8192.Idx) :
    ((sIdx.access (rect16 p cb)).write (Elt F) f w Finset.univ : S8192.Idx → BitVec 32) x
      = if pairOf x = p ∧ blockOf x = cb then w (laneOf x) else f x := by
  split
  · rename_i h
    have e := emb16_laneOf h.1 h.2
    have := View.write_emb_of_mem (v := sIdx.access (rect16 p cb)) (Val := Elt F) f w (M := Finset.univ) (x := laneOf x) (Finset.mem_univ _)
    exact (congrArg _ e.symm).trans (this.trans rfl)
  · rename_i h
    refine View.write_of_not_mem (v := sIdx.access (rect16 p cb)) (Val := Elt F) f w Finset.univ (i := x) ?_
    intro hm; apply h
    rw [View.setOn_univ] at hm
    obtain ⟨y, hy⟩ := View.exists_of_mem_set_slice hm
    exact mem16.mp (hy ▸ (rect16 p cb).idx_mem y)

end Cert.Proof.Sc
-- ==== Proof.Fire.lean ====
/-
  Firing a pair: its addresses written, its two gathers started.
-/
module

public import proofs.«01_k».proof.Proof.Pair

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## Elements and pairs held -/

/-- Where the table, the address scratch and the gathered scratch lie. -/
abbrev tabL : Loc nD τ sig := (thr d i).loc main_v0_scv
abbrev idxL : Loc nD τ sig := (thr d i).loc cc0_scratch3
abbrev rowL : Loc nD τ sig := (thr d i).loc cc0_scratch4

/-- Share of the table for pair `p`, and for its element `r`, of a subcore's share `q`. -/
abbrev qPair (q : PosShare TreeShare) (p : Fin 32) : PosShare TreeShare := pieceOf q 32 (by decide) p
abbrev qEl (q : PosShare TreeShare) (p : Fin 32) (r : Fin 256) : PosShare TreeShare := pieceOf (qPair q p) 256 (by decide) r

/-- Element `r` of pair `p`: its place among the gathered, its address, a share of the table. -/
def elem (q : PosShare TreeShare) (ft : Buf (Elt F) (tabL d i)) (g : Buf (Elt F) (rowL d i)) (f : Buf (Elt F) (idxL d i)) (p : Fin 32) (r : Fin 256) : sProp 𝕄 :=
  iprop(((rowL d i ↦[{xAt p r}]{fullShare} g) ∗ (idxL d i ↦[{xAt p r}]{fullShare} f)) ∗ (tabL d i ↦{qEl q p r} ft))

/-- Pair `p` at once. -/
def pair (q : PosShare TreeShare) (ft : Buf (Elt F) (tabL d i)) (g : Buf (Elt F) (rowL d i)) (f : Buf (Elt F) (idxL d i)) (p : Fin 32) : sProp 𝕄 :=
  iprop(((rowL d i ↦[pairSet p]{fullShare} g) ∗ (idxL d i ↦[pairSet p]{fullShare} f)) ∗ (tabL d i ↦{qPair q p} ft))

theorem pair_elems (q : PosShare TreeShare) (ft : Buf (Elt F) (tabL d i)) (g : Buf (Elt F) (rowL d i)) (f : Buf (Elt F) (idxL d i)) (p : Fin 32) :
    pair d i q ft g f p = bigSep Finset.univ fun r : Fin 256 => elem d i q ft g f p r := by
  unfold pair elem
  rw [BI.bigSep_sep', BI.bigSep_sep', ← pointsTo_biUnion Finset.univ (ℓ := rowL d i) (fun r => {xAt p r}) (xAt_disjoint p),
    ← pointsTo_biUnion Finset.univ (ℓ := idxL d i) (fun r => {xAt p r}) (xAt_disjoint p),
    ← pointsTo_piecesOf Finset.univ ft (by decide : 0 < 256) (qPair q p)]
  rw [pairSet_eq]

/-! ## One gather of 128 elements -/

/-- Element `j` of half `h` of a pair. -/
def half (h : Fin 2) (j : Fin 128) : Fin 256 := ⟨h.val * 128 + j.val, by omega⟩

theorem set_row (p : Fin 32) (h : Fin 2) (j : Fin 128) :
    ((rowHalf p h).view.slice (S128.rowRect gathers_S33554432_S128.axis' j)).set = ({xAt p (half h j)} : Finset S8192.Idx) := by
  have he : ∀ y, (((rowHalf p h).view.slice (S128.rowRect gathers_S33554432_S128.axis' j)).emb y : S8192.Idx) = xAt p (half h j) := by
    intro y
    refine ext8192 ?_
    have hy : (y 0).val < 1 := (y 0).isLt
    show p.val * 256 + h.val * 128 + 1 * (j.val + 1 * (y 0).val) = p.val * 256 + (h.val * 128 + j.val)
    omega
  ext x
  rw [Finset.mem_singleton]
  constructor
  · intro hx
    obtain ⟨y, -, hy⟩ := Finset.mem_map.mp hx
    exact hy.symm.trans (he y)
  · intro hx
    rw [hx, ← he (fun a => ⟨0, by obtain rfl := Subsingleton.elim a 0; exact Nat.one_pos⟩)]
    exact View.emb_mem_set _ _

theorem set_entry (p : Fin 32) (h : Fin 2) (j : Fin 128) (hn : S128.numel = 128) :
    (idxHalf p h).view.emb (S128.rowMajor.symm (j.cast hn.symm)) = xAt p (half h j) := by
  refine ext8192 ?_
  have e : (S128.rowMajor.symm (j.cast hn.symm) 0).val = j.val := by
    rw [← Shape.rowMajor_val_one, Equiv.apply_symm_apply]; rfl
  show p.val * 256 + h.val * 128 + 1 * (S128.rowMajor.symm (j.cast hn.symm) 0).val = p.val * 256 + (h.val * 128 + j.val)
  omega

theorem ext33 {x y : S33554432.Idx} (h : (x 0).val = (y 0).val) : x = y := by
  funext a; obtain rfl := Subsingleton.elim a 0; exact Fin.ext h

theorem set_tabAll : tabAll.view.set = (Finset.univ : Finset S33554432.Idx) := by
  ext x
  simp only [Finset.mem_univ, iff_true]
  refine Finset.mem_map.mpr ⟨x, Finset.mem_univ _, ?_⟩
  refine ext33 ?_
  show 0 + 1 * (x 0).val = (x 0).val
  omega

/-- What a row of the gather writes: the table at the row's address. -/
theorem row_value (base : Fin 32 → BitVec 32) (hb : ∀ x, (idxW base x).toNat < 33554432) (ft : Buf (Elt F) (tabL d i)) (fr : Buf (Elt F) (rowL d i))
    (p : Fin 32) (h : Fin 2) (j : Fin 128)
    (hin : ∀ x, ((idxHalf p h).view.read (Elt F) (idxW base) x).toNat < S33554432.size gathers_S33554432_S128.axis) :
    (rowL d i ↦[{xAt p (half h j)}]{fullShare}
        (((rowHalf p h).view.slice (S128.rowRect gathers_S33554432_S128.axis' j)).write (Elt F) fr
          (fun y => tabAll.view.read (Elt F) ft (gathers_S33554432_S128.rowIdx
            (SparseCore.rows (si := S128) (o := 128) ((idxHalf p h).view.read (Elt F) (idxW base)) rfl hin j) y)) Finset.univ) : sProp 𝕄)
      = rowL d i ↦[{xAt p (half h j)}]{fullShare} gath base ft := by
  refine pointsTo_congr fun x hx => ?_
  rw [← set_row] at hx
  obtain ⟨y, -, hy⟩ := Finset.mem_map.mp hx
  have hx' : x = xAt p (half h j) := by
    have := set_row p h j ▸ hx
    exact Finset.mem_singleton.mp this
  have hw := View.write_emb_of_mem (v := (rowHalf p h).view.slice (S128.rowRect gathers_S33554432_S128.axis' j)) (Val := Elt F) fr
    (fun y => tabAll.view.read (Elt F) ft (gathers_S33554432_S128.rowIdx
            (SparseCore.rows (si := S128) (o := 128) ((idxHalf p h).view.read (Elt F) (idxW base)) rfl hin j) y)) (M := Finset.univ) (x := y) (Finset.mem_univ _)
  refine (congrArg _ hy.symm).trans (hw.trans ?_)
  show ft _ = ft _
  refine congrArg ft (ext33 ?_)
  have hr : (gathers_S33554432_S128.rowIdx
            (SparseCore.rows (si := S128) (o := 128) ((idxHalf p h).view.read (Elt F) (idxW base)) rfl hin j) y 0).val
      = (idxW base x).toNat := by
    have h1 := congrArg Fin.val (Shape.Gathers.rowIdx_axis gathers_S33554432_S128 (SparseCore.rows (si := S128) (o := 128) ((idxHalf p h).view.read (Elt F) (idxW base)) rfl hin j) y)
    refine h1.trans ?_
    show (idxW base ((idxHalf p h).view.emb (S128.rowMajor.symm (j.cast _)))).toNat = _
    rw [set_entry p h j rfl, hx']
  show 0 + 1 * _ = (idxW base x).toNat % 33554432
  rw [hr, Nat.mod_eq_of_lt (hb x)]; omega

section Wp

variable {α : Type}

/-- A program of the subcore's is safe and ends in `Q`. -/
abbrev wpT (p : Prog (ET F i) α) (Q : α → sProp 𝕄) : sProp 𝕄 := wp frame (wpE (defs₀ (F := F)) 𝒱₀ (thr d i) none) Set.univ p Q
/-- A batch of the subcore's transfers. -/
abbrev batch {n : ℕ} (sm : SemLoc sig) (N : ℕ) (D : Fin n → sProp 𝕄) (j u : ℕ) : sProp 𝕄 :=
  Transfers.Batch (countersEmb (nD := nD) (τ := τ) (sig := sig) (Ix := HIx 1) (Val := Elt F) (Name := ℕ)) (thr d i) sm default N D j u

/-- The gather of half a pair, the pair's addresses written. -/
theorem wp_gather {Q : α → sProp 𝕄} (sem : DmaSems sig S_) (q : PosShare TreeShare) (base : Fin 32 → BitVec 32) (hb : ∀ x, (idxW base x).toNat < 33554432)
    (ft : Buf (Elt F) (tabL d i)) (fr : Buf (Elt F) (rowL d i)) (p : Fin 32) (h : Fin 2) {n : ℕ} {D : Fin n → sProp 𝕄} {m : ℕ} (hm : m + 128 ≤ n)
    (hD : ∀ j : Fin 128, elem d i q ft (gath base ft) (idxW base) p (half h j) ⊢ D ⟨m + j.val, by omega⟩) (k : Prog (ET F i) α) :
    iprop(bigSep Finset.univ (fun j : Fin 128 => elem d i q ft fr (idxW base) p (half h j)) ∗ batch d i (.dma sem.sem) 32 D m 0)
      ⊢ iprop((batch d i (.dma sem.sem) 32 D (m + 128) 0 -∗ wpT d i k Q) -∗ wpT d i (gather i sem p h k) Q) := by
  have hin : ∀ x, ((idxHalf p h).view.read (Elt F) (idxW base) x).toNat < S33554432.size gathers_S33554432_S128.axis := fun x => hb _
  refine (Entails.of_eq ?_).trans (wp_gatherBatch (defs := defs₀ (F := F)) countersEmb 𝒱₀ (thr d i) none (src := tabAll) (dst := rowHalf p h)
    (hg := gathers_S33554432_S128) (offs := idxHalf p h) (hn := rfl) (sem := sem.sem) (k := fun _ => k) (qo := fullShare)
    (qk := fun j => qEl q p (half h j)) (fs := ft) (fd := fr) (fo := idxW base) default 32 (fun j => by rfl) hin hm ?_)
  · refine congrArg₂ (fun a b => iprop(a ∗ b)) (BI.bigSep_congr fun j _ => ?_) rfl
    refine congrArg₂ (fun a b => iprop(a ∗ b)) (congrArg₂ (fun a b => iprop(a ∗ b)) ?_ ?_) ?_
    · exact (congrArg (fun S => (rowL d i ↦[S]{fullShare} fr : sProp 𝕄)) (set_row p h j)).symm
    · exact (congrArg (fun e => (idxL d i ↦[({e} : Finset S8192.Idx)]{fullShare} idxW base : sProp 𝕄)) (set_entry p h j rfl)).symm
    · exact (congrArg (fun S => (tabL d i ↦[S]{qEl q p (half h j)} ft : sProp 𝕄)) set_tabAll).symm
  · intro j
    refine (Entails.of_eq ?_).trans (hD j)
    refine congrArg₂ (fun a b => iprop(a ∗ b)) (congrArg₂ (fun a b => iprop(a ∗ b)) ?_ ?_)
      (congrArg (fun S => (tabL d i ↦[S]{qEl q p (half h j)} ft : sProp 𝕄)) set_tabAll)
    · exact (congrArg (fun S => (rowL d i ↦[S]{fullShare} _ : sProp 𝕄)) (set_row p h j)).trans (row_value d i base hb ft fr p h j hin)
    · exact congrArg (fun e => (idxL d i ↦[({e} : Finset S8192.Idx)]{fullShare} idxW base : sProp 𝕄)) (set_entry p h j rfl)

/-- The addresses of a pair's channel blocks written. -/
theorem wp_storeIdxs {Q : α → sProp 𝕄} (base : Fin 32 → BitVec 32) (p : Fin 32) (k : Prog (ET F i) α) : ∀ (l : List (Fin 16)) (f : Buf (Elt F) (idxL d i)),
    (idxL d i ↦[pairSet p]{fullShare} f)
      ⊢ iprop((∀ f', ⌜∀ x : S8192.Idx, pairOf x = p → (f x = idxW base x ∨ blockOf x ∈ l) → f' x = idxW base x⌝
            -∗ (idxL d i ↦[pairSet p]{fullShare} f') -∗ wpT d i k Q)
          -∗ wpT d i (storeIdxs i p (base p) l k) Q)
  | [], f => by
    iintro H Hk
    iapply Hk $$ %f
    · ipureintro
      rintro x - (h | h)
      · exact h
      · exact absurd h (List.not_mem_nil)
    · iexact H
  | cb :: l, f => by
    iintro H Hk
    iapply (wp_load 𝒱₀ (thr d i) none Set.univ (m := sIdx) (r := (rect16 p cb).toLoadRect)
      (show sIdx.view.setOn (rect16 p cb).set ⊆ pairSet p from (Finset.map_refl (s := (rect16 p cb).set)).le.trans (set16_subset p cb))) $$ H
    iintro H
    iapply (wp_store 𝒱₀ (thr d i) none Set.univ (m := sIdx) (r := rect16 p cb) (Mk := Finset.univ)
      (show (sIdx.access (rect16 p cb)).setOn Finset.univ ⊆ pairSet p from by
        rw [View.setOn_univ]
        exact (View.set_slice_whole _ _).le.trans (set16_subset p cb))) $$ H
    iintro H
    iapply (wp_storeIdxs base p k l _) $$ H
    iintro %f' %hf' H
    iapply Hk $$ %f' [] H
    ipureintro
    intro x hx hor
    refine hf' x hx ?_
    rw [write16]
    by_cases hc : blockOf x = cb
    · left; rw [if_pos ⟨hx, hc⟩]; subst hx hc; rfl
    · rw [if_neg (fun h => hc h.2)]
      rcases hor with h | h
      · exact .inl h
      · exact .inr ((List.mem_cons.mp h).resolve_left hc)

theorem mem_cbs : ∀ cb : Fin 16, cb ∈ cbs := by decide

/-- The elements of a pair are those of its two halves. -/
theorem halves (Φ : Fin 256 → sProp 𝕄) :
    bigSep Finset.univ Φ = iprop((bigSep Finset.univ fun j : Fin 128 => Φ (half 0 j)) ∗ bigSep Finset.univ fun j : Fin 128 => Φ (half 1 j)) := by
  rw [BI.bigSep_univ_equiv (finProdFinEquiv : Fin 2 × Fin 128 ≃ Fin (2 * 128)) Φ, BI.bigSep_univ_prod]
  rw [bigSep_univ_succ (m := 1), BI.bigSep_univ_of_subsingleton (0 : Fin 1)]
  have e (h : Fin 2) (j : Fin 128) : (finProdFinEquiv (h, j) : Fin (2 * 128)) = half h j := Fin.ext (by
    show j.val + 128 * h.val = h.val * 128 + j.val; omega)
  exact congrArg₂ _ (BI.bigSep_congr fun j _ => congrArg Φ (e 0 j)) (BI.bigSep_congr fun j _ => congrArg Φ (e 1 j))

/-- A pair fired: its addresses written and its two gathers started. -/
theorem wp_fire_live {Q : α → sProp 𝕄} (sem : DmaSems sig S_) (q : PosShare TreeShare) (base : Fin 32 → BitVec 32) (hb : ∀ x, (idxW base x).toNat < 33554432)
    (ft : Buf (Elt F) (tabL d i)) (fr : Buf (Elt F) (rowL d i)) (fi : Buf (Elt F) (idxL d i)) (p : Fin 32) {n : ℕ} {D : Fin n → sProp 𝕄} {m : ℕ} (hm : m + 256 ≤ n)
    (hD : ∀ r : Fin 256, elem d i q ft (gath base ft) (idxW base) p r ⊢ D ⟨m + r.val, by omega⟩) (k : Prog (ET F i) α) :
    iprop(pair d i q ft fr fi p ∗ batch d i (.dma sem.sem) 32 D m 0)
      ⊢ iprop((batch d i (.dma sem.sem) 32 D (m + 256) 0 -∗ wpT d i k Q)
          -∗ wpT d i (storeIdxs i p (base p) cbs (gather i sem p 0 (gather i sem p 1 k))) Q) := by
  iintro ⟨Hp, HB⟩ Hk
  unfold pair
  icases Hp with ⟨⟨Hr, Hi⟩, Ht⟩
  iapply (wp_storeIdxs d i base p _ cbs fi) $$ Hi
  iintro %f' %hf' Hi
  ihave Hi := (Entails.of_eq (pointsTo_congr (q := fullShare) (I := pairSet p) (f := f') (g := idxW base) (ℓ := idxL d i)
    (fun x hx => hf' x (mem_pairSet.mp hx) (.inr (mem_cbs _))))) $$ Hi
  ihave Hp := (Entails.of_eq ((pair_elems d i q ft fr (idxW base) p).trans (halves _))) $$ [Hr Hi Ht]
  · unfold pair; isplitl [Hr Hi]
    · isplitl [Hr] <;> iassumption
    · iexact Ht
  icases Hp with ⟨H0, H1⟩
  iapply (wp_gather d i sem q base hb ft fr p 0 (m := m) (by omega) (fun j => (hD (half 0 j)).trans (Entails.of_eq (congrArg D (Fin.ext (by
    show m + (0 * 128 + j.val) = m + j.val; omega))))) _) $$ [H0 HB]
  · isplitl [H0] <;> iassumption
  iintro HB
  iapply (wp_gather d i sem q base hb ft fr p 1 (m := m + 128) (by omega) (fun j => (hD (half 1 j)).trans (Entails.of_eq (congrArg D (Fin.ext (by
    show m + (1 * 128 + j.val) = m + 128 + j.val; omega))))) _) $$ [H1 HB]
  · isplitl [H1] <;> iassumption
  iexact Hk

end Wp

end Cert.Proof.Sc
-- ==== Proof.Fires.lean ====
/-
  Firing and draining a list of pairs on one semaphore.
-/
module

public import proofs.«01_k».proof.Proof.Fire

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## The batch of a list of pairs -/

/-- Whether pair `p` is unmasked. -/
def isLive (lv : Fin 32 → BitVec 1) (p : Fin 32) : Bool := decide (flag (lv p) = 1#1)

/-- What transfer `t` of the pairs `L` delivers: element `t mod 256` of pair `t / 256`, gathered. -/
def deliv (q : PosShare TreeShare) (base : Fin 32 → BitVec 32) (ft : Buf (Elt F) (tabL d i)) (L : List (Fin 32)) (t : ℕ) : sProp 𝕄 :=
  elem d i q ft (gath base ft) (idxW base) (L.getD (t / 256) 0) ⟨t % 256, Nat.mod_lt _ (by decide)⟩

/-- The deliveries of the pairs `L`. -/
def delivs (q : PosShare TreeShare) (base : Fin 32 → BitVec 32) (ft : Buf (Elt F) (tabL d i)) (L : List (Fin 32)) : Fin (L.length * 256) → sProp 𝕄 :=
  fun t => deliv d i q base ft L t.val

instance (q : PosShare TreeShare) (base : Fin 32 → BitVec 32) (ft : Buf (Elt F) (tabL d i)) (L : List (Fin 32)) (t : Fin (L.length * 256)) :
    BI.Storable (upEmb : UEmb _ 𝕄) (delivs d i q base ft L t) :=
  inferInstanceAs (BI.Storable (upEmb : UEmb _ 𝕄) iprop(((rowL d i ↦[{xAt _ _}]{fullShare} _) ∗ (idxL d i ↦[{xAt _ _}]{fullShare} _)) ∗ (tabL d i ↦{qEl q _ _} ft)))

/-- All the deliveries are the pairs, gathered. -/
theorem delivs_pairs (q : PosShare TreeShare) (base : Fin 32 → BitVec 32) (ft : Buf (Elt F) (tabL d i)) (L : List (Fin 32)) :
    bigSep Finset.univ (delivs d i q base ft L) = bigSepL L (pair d i q ft (gath base ft) (idxW base)) := by
  rw [← bigSep_get]
  refine (bigSep_blocks 256 L.length (deliv d i q base ft L)).trans (BI.bigSep_congr fun x _ => ?_)
  rw [pair_elems]
  refine BI.bigSep_congr fun r _ => ?_
  unfold deliv
  have e1 : (r.val + 256 * x.val) / 256 = x.val := by omega
  have e2 : (⟨(r.val + 256 * x.val) % 256, Nat.mod_lt _ (by decide)⟩ : Fin 256) = r := Fin.ext (by show (r.val + 256 * x.val) % 256 = r.val; omega)
  have e3 : L.getD x.val 0 = L.get x := by simp
  rw [e2, e1, e3]

section Wp

variable {α : Type}

/-- Every unmasked pair of a list fired; the masked ones' resources untouched. -/
theorem wp_fires {Q : α → sProp 𝕄} (sem : DmaSems sig S_) (q : PosShare TreeShare) (lv : Fin 32 → BitVec 1) (base : Fin 32 → BitVec 32)
    (hb : ∀ x, (idxW base x).toNat < 33554432) (ft : Buf (Elt F) (tabL d i)) (fr : Buf (Elt F) (rowL d i)) (fi : Buf (Elt F) (idxL d i))
    (L : List (Fin 32)) (k : Prog (ET F i) α) : ∀ (l dn : List (Fin 32)) (_ : L = dn ++ l.filter (isLive lv)),
    iprop(bigSepL l (pair d i q ft fr fi) ∗ batch d i (.dma sem.sem) 32 (delivs d i q base ft L) (dn.length * 256) 0)
      ⊢ iprop((bigSepL (l.filter fun p => !isLive lv p) (pair d i q ft fr fi) -∗ batch d i (.dma sem.sem) 32 (delivs d i q base ft L) (L.length * 256) 0
            -∗ wpT d i k Q)
          -∗ wpT d i (fires i sem lv base l k) Q)
  | [], dn, h => by
    have h' : L = dn := h.trans (List.append_nil _)
    subst h'
    rw [List.filter_nil]
    iintro ⟨H, HB⟩ Hk
    iapply Hk $$ H HB
  | p :: l, dn, h => by
    have hf : fires i sem lv base (p :: l) k = if flag (lv p) = 1#1 then storeIdxs i p (base p) cbs (gather i sem p 0 (gather i sem p 1 (fires i sem lv base l k)))
      else fires i sem lv base l k := rfl
    rw [BI.bigSepL_cons', hf]
    iintro ⟨⟨Hp, H⟩, HB⟩ Hk
    by_cases hl : flag (lv p) = 1#1
    · have hlive : isLive lv p = true := decide_eq_true hl
      rw [if_pos hl]
      rw [List.filter_cons_of_pos hlive] at h
      have hlen := congrArg List.length h
      rw [List.length_append, List.length_cons] at hlen
      have hget : L.getD dn.length 0 = p := by rw [h]; simp [List.getD]
      iapply (wp_fire_live d i sem q base hb ft fr fi p (n := L.length * 256) (D := delivs d i q base ft L) (m := dn.length * 256) (by omega) (fun r => Entails.of_eq (by
        show _ = deliv d i q base ft L (dn.length * 256 + r.val)
        unfold deliv
        have e1 : (dn.length * 256 + r.val) / 256 = dn.length := by omega
        have e2 : (⟨(dn.length * 256 + r.val) % 256, Nat.mod_lt _ (by decide)⟩ : Fin 256) = r := Fin.ext (by
          show (dn.length * 256 + r.val) % 256 = r.val; omega)
        rw [e2, e1, hget])) _) $$ [Hp HB]
      · isplitl [Hp] <;> iassumption
      iintro HB
      have hm : dn.length * 256 + 256 = (dn ++ [p]).length * 256 := by rw [List.length_append, List.length_singleton]; omega
      ihave HB := (Entails.of_eq (congrArg (fun m => batch d i (.dma sem.sem) 32 (delivs d i q base ft L) m 0) hm)) $$ HB
      iapply (wp_fires sem q lv base hb ft fr fi L k l (dn ++ [p]) (by rw [h, List.append_assoc]; rfl)) $$ [H HB]
      · isplitl [H] <;> iassumption
      rw [List.filter_cons_of_neg (by simp [hlive])]
      iexact Hk
    · have hlive : isLive lv p = false := decide_eq_false hl
      rw [if_neg hl]
      rw [List.filter_cons_of_neg (by simp [hlive])] at h
      iapply (wp_fires sem q lv base hb ft fr fi L k l dn h) $$ [H HB]
      · isplitl [H] <;> iassumption
      rw [List.filter_cons_of_pos (by simp [hlive]), BI.bigSepL_cons']
      iintro H
      iapply Hk
      isplitl [Hp] <;> iassumption

/-- Half a pair's gathers waited for. -/
theorem wp_waitHalf {Q : α → sProp 𝕄} (sem : DmaSems sig S_) {n : ℕ} {D : Fin n → sProp 𝕄} {j u : ℕ} (hu : u + 4096 ≤ 32 * j)
    {O : CellTallies nD τ sig (HIx 1)} {W : Waits sig (HIx 1)} (p : Fin 32) (h : Fin 2) (k : Prog (ET F i) α) :
    iprop(batch d i (.dma sem.sem) 32 D j u ∗ owes (thr d i) O W ∗ Transfers.MayWaits (thr d i) (default : HIx 1) O)
      ⊢ iprop((batch d i (.dma sem.sem) 32 D j (u + 4096) -∗ owes (thr d i) O (insert (SemLoc.dma sem.sem, (default : HIx 1)) W) -∗ wpT d i k Q)
          -∗ wpT d i (waitHalf i sem p h k) Q) := by
  iintro ⟨HB, HO, Hmw⟩ Hk
  iapply (Transfers.wp_waitBatchMulO countersEmb 𝒱₀ (thr d i) none (default : HIx 1) (N := 32) 128 (by rfl) hu) $$ [HB HO Hmw]
  · isplitl [HB]; · iexact HB
    isplitl [HO]; · iexact HO
    iapply (Transfers.MayWaits.elim (SemLoc.dma sem.sem)) $$ Hmw
  iintro ⟨HB, HO⟩
  iapply Hk $$ HB HO

/-- Every unmasked pair of a list waited for. -/
theorem wp_drains {Q : α → sProp 𝕄} (sem : DmaSems sig S_) (lv : Fin 32 → BitVec 1) {n : ℕ} {D : Fin n → sProp 𝕄} {j : ℕ}
    {O : CellTallies nD τ sig (HIx 1)} (k : Prog (ET F i) α) : ∀ (l : List (Fin 32)) (u : ℕ) (W : Waits sig (HIx 1)),
    u + (l.filter (isLive lv)).length * 8192 ≤ 32 * j →
    (iprop(□ Transfers.MayWaits (thr d i) (default : HIx 1) O ∗ batch d i (.dma sem.sem) 32 D j u ∗ owes (thr d i) O W)
      ⊢ iprop((∀ W', ⌜∀ p ∈ W', p ∈ W ∨ p.2 = none⌝ -∗ batch d i (.dma sem.sem) 32 D j (u + (l.filter (isLive lv)).length * 8192) -∗ owes (thr d i) O W' -∗ wpT d i k Q)
          -∗ wpT d i (drains i sem lv l k) Q)) := by
  intro l
  induction l with
  | nil =>
    intro u W _
    iintro ⟨-, HB, HO⟩ Hk
    iapply Hk $$ %W [] [HB] HO
    · ipureintro; exact fun p hp => .inl hp
    · have e : u + (([] : List (Fin 32)).filter (isLive lv)).length * 8192 = u := by simp
      rw [e]; iexact HB
  | cons p l ih =>
    intro u W hu
    have hf : drains i sem lv (p :: l) k
      = if flag (lv p) = 1#1 then waitHalf i sem p 0 (waitHalf i sem p 1 (drains i sem lv l k)) else drains i sem lv l k := rfl
    rw [hf]
    iintro ⟨#Hmw, HB, HO⟩ Hk
    by_cases hl : flag (lv p) = 1#1
    · have hlive : isLive lv p = true := decide_eq_true hl
      rw [if_pos hl]
      rw [List.filter_cons_of_pos hlive, List.length_cons] at hu
      iapply (wp_waitHalf d i sem (D := D) (j := j) (u := u) (by omega) p 0 _) $$ [HB HO]
      · isplitl [HB]; · iexact HB
        isplitl [HO]; · iexact HO
        iexact Hmw
      iintro HB HO
      iapply (wp_waitHalf d i sem (D := D) (j := j) (u := u + 4096) (by omega) p 1 _) $$ [HB HO]
      · isplitl [HB]; · iexact HB
        isplitl [HO]; · iexact HO
        iexact Hmw
      iintro HB HO
      iapply (ih (u + 4096 + 4096) _ (by omega)) $$ [HB HO]
      · isplitr; · imodintro; iexact Hmw
        isplitl [HB]; · iexact HB
        iexact HO
      iintro %W' %hW' HB HO
      iapply Hk $$ %W' [] [HB] HO
      · ipureintro
        intro g hg
        rcases hW' g hg with hg | hg
        · rcases Finset.mem_insert.mp hg with hg | hg
          · exact .inr (hg ▸ rfl)
          rcases Finset.mem_insert.mp hg with hg | hg
          · exact .inr (hg ▸ rfl)
          exact .inl hg
        · exact .inr hg
      · have e : u + ((p :: l).filter (isLive lv)).length * 8192 = u + 4096 + 4096 + (l.filter (isLive lv)).length * 8192 := by
          rw [List.filter_cons_of_pos hlive, List.length_cons]; omega
        rw [e]; iexact HB
    · have hlive : isLive lv p = false := decide_eq_false hl
      have e : (p :: l).filter (isLive lv) = l.filter (isLive lv) := List.filter_cons_of_neg (by simp [hlive])
      rw [if_neg hl, e]
      rw [e] at hu
      iapply (ih u W hu) $$ [HB HO]
      · isplitr; · imodintro; iexact Hmw
        isplitl [HB]; · iexact HB
        iexact HO
      iexact Hk

end Wp

end Cert.Proof.Sc
-- ==== Proof.Compute.lean ====
/-
  The loss of a list of pairs, added to the partial result.
-/
module

public import proofs.«01_k».proof.Proof.Fires
public import Idealize.ShloMosaic.Lib.Pointwise.Reshape

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## Values -/

/-- Where the targets' and the partial result's scratches lie. -/
abbrev tgtL : Loc nD τ sig := (thr d i).loc cc0_scratch2
abbrev outL : Loc nD τ sig := (thr d i).loc cc0_scratch5

/-- Channels `16 k` to `16 k + 15` of pair `p`. -/
def chunk (g : S8192.Idx → Elt F .f32) (p : Fin 32) (k : ℕ) : Vec F S16 .f32 :=
  fun y => g fun a => ⟨(p.val * 256 + k * 16 + (y 0).val) % 8192, by obtain rfl := Subsingleton.elim a 0; exact Nat.mod_lt _ (by decide)⟩

/-- The loss of the first `16 k` channels of pair `p`, lane by lane, of the predictions `g` against the targets `t`. -/
def accs (g t : S8192.Idx → Elt F .f32) (p : Fin 32) : ℕ → FVec F S16 .f32
  | 0 => zero16
  | k + 1 => bceStep (accs g t p k) (chunk g p k) (chunk t p k)

/-- `v` and the losses of the unmasked pairs listed. -/
def accPairs (lv : Fin 32 → BitVec 1) (g t : S8192.Idx → Elt F .f32) (l : List (Fin 32)) (v : FVec F S16 .f32) : FVec F S16 .f32 :=
  l.foldl (fun v p => if isLive lv p then addf v (accs g t p 16) else v) v

/-- The first half of the partial result. -/
def loOf (o : S32.Idx → Elt F .f32) : FVec F S16 .f32 := fun y => o (rectLo.idx y)

theorem rectC_eq (p : Fin 32) (t : Fin k0_t1_loop.trips) : rectC p t = rect16 p (t.cast trips_eq) := by
  have h : ∀ (o o' : Fin 1 → ℕ) (h : ∀ a, o a + S16.size a ≤ S8192.size a) (h' : ∀ a, o' a + S16.size a ≤ S8192.size a), o = o' →
      Rect.unit (s := S8192) o S16.size h = Rect.unit (s := S8192) o' S16.size h' := by rintro o _ h h' rfl; rfl
  exact h _ _ _ _ (cOff_eq p t)

theorem setC_subset (p : Fin 32) (t : Fin k0_t1_loop.trips) : (rectC p t).set ⊆ pairSet p := by
  rw [rectC_eq]; exact set16_subset p _

/-- What a trip's loads read. -/
theorem idxC (p : Fin 32) (t : Fin k0_t1_loop.trips) (y : S16.Idx) :
    ((rectC p t).idx y : S8192.Idx) = fun a => ⟨(p.val * 256 + t.val * 16 + (y 0).val) % 8192, by
      obtain rfl := Subsingleton.elim a 0; exact Nat.mod_lt _ (by decide)⟩ := by
  refine ext8192 ?_
  have h0 := congrFun (cOff_eq p t) 0
  have hy : (y 0).val < 16 := (y 0).isLt
  have ht : t.val < 16 := trips_eq ▸ t.isLt
  show cOff p t 0 + 1 * (y 0).val = (p.val * 256 + t.val * 16 + (y 0).val) % 8192
  rw [h0, Nat.mod_eq_of_lt (by omega)]
  show p.val * 256 + t.val * 16 + 1 * (y 0).val = _
  omega

theorem readRow (g : S8192.Idx → Elt F .f32) (p : Fin 32) (t : Fin k0_t1_loop.trips) :
    sRow.view.readAt (Elt F) (rectC p t).toLoadRect g = chunk g p t.val := by
  funext y; exact congrArg g (idxC p t y)
theorem readTgt (g : S8192.Idx → Elt F .f32) (p : Fin 32) (t : Fin k0_t1_loop.trips) :
    sTgt.view.readAt (Elt F) (rectC p t).toLoadRect g = chunk g p t.val := by
  funext y; exact congrArg g (idxC p t y)
theorem readLo (o : S32.Idx → Elt F .f32) : sOut.view.readAt (Elt F) rectLo.toLoadRect o = loOf o := rfl
/-- A store of the first half. -/
theorem loOf_write (o : S32.Idx → Elt F .f32) (w : S16.Idx → Elt F .f32) :
    loOf ((sOut.access rectLo).write (Elt F) o w Finset.univ) = w := by
  funext y
  exact View.write_emb_of_mem (v := sOut.access rectLo) (Val := Elt F) o w (M := Finset.univ) (x := y) (Finset.mem_univ _)

section Wp

variable {α : Type}

/-- A pair's loop. -/
theorem wp_pairLoop {Q : α → sProp 𝕄} (g : Buf (Elt F) (rowL d i)) (t : Buf (Elt F) (tgtL d i)) (p : Fin 32) (kk : FVec F S16 .f32 → Prog (ET F i) α) :
    iprop((rowL d i ↦[pairSet p]{fullShare} g) ∗ (tgtL d i ↦{fullShare} t))
      ⊢ iprop(((rowL d i ↦[pairSet p]{fullShare} g) -∗ (tgtL d i ↦{fullShare} t) -∗ wpT d i (kk (accs g t p 16)) Q)
          -∗ wpT d i (Scf.Loop.for k0_t1_loop k0_t1_ok zero16 (trip i p) >>= kk) Q) := by
  have hbody : ∀ (k : Fin k0_t1_loop.trips) (acc : FVec F S16 .f32),
      (iprop(⌜acc = accs g t p k.val⌝ ∗ (rowL d i ↦[pairSet p]{fullShare} g) ∗ (tgtL d i ↦{fullShare} t)) : sProp 𝕄)
        ⊢ wpT d i (trip i p k acc) fun acc => iprop(⌜acc = accs g t p (k.val + 1)⌝ ∗ (rowL d i ↦[pairSet p]{fullShare} g) ∗ (tgtL d i ↦{fullShare} t)) := by
    intro k acc
    iintro ⟨%hacc, Hr, Ht⟩
    subst hacc
    unfold trip
    iapply (wp_load 𝒱₀ (thr d i) none Set.univ (m := sRow) (r := (rectC p k).toLoadRect)
      (show sRow.view.setOn (rectC p k).set ⊆ pairSet p from (Finset.map_refl (s := (rectC p k).set)).le.trans (setC_subset p k))) $$ Hr
    iintro Hr
    iapply (wp_load 𝒱₀ (thr d i) none Set.univ (m := sTgt) (r := (rectC p k).toLoadRect) (Finset.subset_univ _)) $$ Ht
    iintro Ht
    iapply (Entails.of_eq (wp_pure (α := FVec F S16 .f32) ..).symm)
    imodintro
    isplitr
    · ipureintro
      rw [readRow, readTgt]; rfl
    isplitl [Hr]
    · iexact Hr
    · iexact Ht
  iintro ⟨Hr, Ht⟩ Hk
  iapply (Scf.wp_for_bind _ _ _ _ _ _ k0_t1_ok zero16 (trip i p)
    (fun k acc => iprop(⌜acc = accs g t p k⌝ ∗ (rowL d i ↦[pairSet p]{fullShare} g) ∗ (tgtL d i ↦{fullShare} t))) hbody) $$ [Hr Ht]
  · isplitr
    · ipureintro; rfl
    isplitl [Hr]
    · iexact Hr
    · iexact Ht
  iintro %acc ⟨%hacc, Hr, Ht⟩
  have e : acc = accs g t p 16 := hacc.trans (congrArg _ trips_eq)
  rw [e]
  iapply Hk $$ Hr Ht

/-- A pair's loss added to the first half of the partial result. -/
theorem wp_addOut {Q : α → sProp 𝕄} (a : FVec F S16 .f32) (o : Buf (Elt F) (outL d i)) (k : Prog (ET F i) α) :
    (outL d i ↦{fullShare} o)
      ⊢ iprop((∀ o', ⌜loOf o' = addf (loOf o) a⌝ -∗ (outL d i ↦{fullShare} o') -∗ wpT d i k Q) -∗ wpT d i (addOut i a k) Q) := by
  unfold addOut
  iintro H Hk
  iapply (wp_load 𝒱₀ (thr d i) none Set.univ (m := sOut) (r := rectLo.toLoadRect) (Finset.subset_univ _)) $$ H
  iintro H
  iapply (wp_load 𝒱₀ (thr d i) none Set.univ (m := sOut) (r := rectLo.toLoadRect) (Finset.subset_univ _)) $$ H
  iintro H
  iapply (wp_store 𝒱₀ (thr d i) none Set.univ (m := sOut) (r := rectLo) (Mk := Finset.univ) (Finset.subset_univ _)) $$ H
  iintro H
  iapply Hk $$ %_ [] H
  ipureintro
  rw [loOf_write, shapeCast_id, shapeCast_id]
  rfl

/-- The losses of the unmasked pairs of a list added. -/
theorem wp_computes {Q : α → sProp 𝕄} (q : PosShare TreeShare) (lv : Fin 32 → BitVec 1) (ft : Buf (Elt F) (tabL d i))
    (g : Buf (Elt F) (rowL d i)) (f : Buf (Elt F) (idxL d i)) (t : Buf (Elt F) (tgtL d i)) (k : Prog (ET F i) α) :
    ∀ (l : List (Fin 32)) (o : Buf (Elt F) (outL d i)),
      iprop(bigSepL (l.filter (isLive lv)) (pair d i q ft g f) ∗ (tgtL d i ↦{fullShare} t) ∗ (outL d i ↦{fullShare} o))
        ⊢ iprop((∀ o', ⌜loOf o' = accPairs lv g t l (loOf o)⌝ -∗ bigSepL (l.filter (isLive lv)) (pair d i q ft g f) -∗ (tgtL d i ↦{fullShare} t)
              -∗ (outL d i ↦{fullShare} o') -∗ wpT d i k Q)
            -∗ wpT d i (computes i lv l k) Q)
  | [], o => by
    iintro ⟨H, Ht, Ho⟩ Hk
    iapply Hk $$ %o [] H Ht Ho
    ipureintro; rfl
  | p :: l, o => by
    have hf : computes i lv (p :: l) k
      = if flag (lv p) = 1#1 then Scf.Loop.for k0_t1_loop k0_t1_ok zero16 (trip i p) >>= fun a => addOut i a (computes i lv l k) else computes i lv l k := rfl
    rw [hf]
    by_cases hl : flag (lv p) = 1#1
    · have hlive : isLive lv p = true := decide_eq_true hl
      rw [if_pos hl, List.filter_cons_of_pos hlive, BI.bigSepL_cons']
      iintro ⟨⟨Hp, H⟩, Ht, Ho⟩ Hk
      unfold pair
      icases Hp with ⟨⟨Hr, Hi⟩, Hs⟩
      iapply (wp_pairLoop d i g t p _) $$ [Hr Ht]
      · isplitl [Hr]
        · iexact Hr
        · iexact Ht
      iintro Hr Ht
      iapply (wp_addOut d i _ o _) $$ Ho
      iintro %o1 %ho1 Ho
      iapply (wp_computes q lv ft g f t k l o1) $$ [H Ht Ho]
      · isplitl [H]
        · unfold pair; iexact H
        isplitl [Ht]
        · iexact Ht
        · iexact Ho
      iintro %o2 %ho2 H Ht Ho
      iapply Hk $$ %o2 [] [H Hr Hi Hs] Ht Ho
      · ipureintro
        rw [ho2, ho1]
        show _ = accPairs lv g t l (if isLive lv p then _ else _)
        rw [if_pos hlive]
      · isplitl [Hr Hi Hs]
        · isplitl [Hr Hi]
          · isplitl [Hr]
            · iexact Hr
            · iexact Hi
          · iexact Hs
        · unfold pair; iexact H
    · have hlive : isLive lv p = false := decide_eq_false hl
      rw [if_neg hl, List.filter_cons_of_neg (by simp [hlive])]
      iintro H Hk
      iapply (wp_computes q lv ft g f t k l o) $$ H
      iintro %o2 %ho2 H Ht Ho
      iapply Hk $$ %o2 [] H Ht Ho
      ipureintro
      rw [ho2]
      show _ = accPairs lv g t l (if isLive lv p then _ else _)
      rw [hlive]; rfl

end Wp

end Cert.Proof.Sc
-- ==== Proof.Copies.lean ====
/-
  The copies in and out of a subcore's task.
-/
module

public import proofs.«01_k».proof.Proof.Compute

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## Values -/

/-- Where the row numbers, the mask, the targets and the partial results lie. -/
abbrev indH : Loc nD τ sig := (thr d i).loc main_v1_scv
abbrev mskH : Loc nD τ sig := (thr d i).loc main_v2_scv
abbrev tgtH : Loc nD τ sig := (thr d i).loc main_v3_scv
abbrev outH : Loc nD τ sig := (thr d i).loc main_v4_scv
/-- Where the scratches of the row numbers and of the mask lie. -/
abbrev indL : Loc nD τ sig := (thr d i).loc cc0_scratch0
abbrev mskL : Loc nD τ sig := (thr d i).loc cc0_scratch1

/-- The first and the second sixteen of thirty-two. -/
def loHalf {α : Type} (o : S32.Idx → α) : S16.Idx → α := fun y => o (rectLo.idx y)
def hiHalf {α : Type} (o : S32.Idx → α) : S16.Idx → α := fun y => o (rectHi.idx y)

/-- This subcore's row numbers, mask and targets. -/
def indOf (a : S1024.Idx → BitVec 32) : S32.Idx → BitVec 32 := (indAt i).view.read (Elt F) a
def mskOf (a : S1024.Idx → BitVec 32) : S32.Idx → BitVec 32 := (mskAt i).view.read (Elt F) a
def tgtOf (a : S262144.Idx → Elt F .f32) : S8192.Idx → Elt F .f32 := (tgtAt i).view.read (Elt F) a

/-- Thirty-two elements from their halves. -/
def joinHalves (v w : S16.Idx → Elt F .f32) : S32.Idx → Elt F .f32 := fun z =>
  if h : (z 0).val < 16 then v (fun a => ⟨(z 0).val, by obtain rfl := Subsingleton.elim a 0; exact h⟩)
  else w (fun a => ⟨(z 0).val - 16, by obtain rfl := Subsingleton.elim a 0; have : (z 0).val < 32 := (z 0).isLt; show _ < 16; omega⟩)

theorem ext32 {x y : S32.Idx} (h : (x 0).val = (y 0).val) : x = y := by
  funext a; obtain rfl := Subsingleton.elim a 0; exact Fin.ext h

/-- The second half stored over a first half `v`. -/
theorem write_hi (o : S32.Idx → Elt F .f32) (w : S16.Idx → Elt F .f32) :
    (sOut.access rectHi).write (Elt F) o w Finset.univ = joinHalves (loOf o) w := by
  funext z
  unfold joinHalves
  split
  · rename_i h
    refine (View.write_of_not_mem (v := sOut.access rectHi) (Val := Elt F) o w Finset.univ (i := z) ?_).trans ?_
    · intro hm
      rw [View.setOn_univ] at hm
      obtain ⟨y, hy⟩ := View.exists_of_mem_set_slice hm
      have e : (z 0).val = 16 + 1 * (y 0).val := congrArg (fun x : S32.Idx => (x 0).val) hy.symm
      omega
    · refine congrArg o (ext32 ?_)
      show (z 0).val = 0 + 1 * (z 0).val
      omega
  · rename_i h
    have hz : (z 0).val < 32 := (z 0).isLt
    let y : S16.Idx := fun a => ⟨(z 0).val - 16, by obtain rfl := Subsingleton.elim a 0; show _ < 16; omega⟩
    have e : (sOut.access rectHi).emb y = z := ext32 (by show 16 + 1 * ((z 0).val - 16) = (z 0).val; omega)
    have hw := View.write_emb_of_mem (v := sOut.access rectHi) (Val := Elt F) o w (M := Finset.univ) (x := y) (Finset.mem_univ _)
    exact (congrArg _ e.symm).trans hw

section Wp

variable {α : Type}

/-- The start: the row numbers and the mask fetched and loaded, the targets' copy under way. -/
theorem wp_start {Q : α → sProp 𝕄} (qi qm qt : PosShare TreeShare) (ai : Buf (Elt F) (indH d i)) (am : Buf (Elt F) (mskH d i)) (at' : Buf (Elt F) (tgtH d i))
    (f0 : Buf (Elt F) (indL d i)) (f1 : Buf (Elt F) (mskL d i)) (f2 : Buf (Elt F) (tgtL d i))
    {O : CellTallies nD τ sig (HIx 1)} {W : Waits sig (HIx 1)}
    (k : Vec F S16 .i32 → Vec F S16 .i32 → Vec F S16 .i32 → Vec F S16 .i32 → Prog (ET F i) α) :
    iprop(□ Transfers.MayWaits (thr d i) (default : HIx 1) O
        ∗ ((indH d i ↦[(indAt i).view.set]{qi} ai) ∗ (mskH d i ↦[(mskAt i).view.set]{qm} am) ∗ (tgtH d i ↦[(tgtAt i).view.set]{qt} at'))
        ∗ ((indL d i ↦{fullShare} f0) ∗ (mskL d i ↦{fullShare} f1) ∗ (tgtL d i ↦{fullShare} f2))
        ∗ (semVal (thr d i, .dma cc0_scoped0.sem) 0 ∗ semVal (thr d i, .dma cc0_scoped1.sem) 0 ∗ semVal (thr d i, .dma cc0_scratch8.sem) 0)
        ∗ owes (thr d i) O W)
      ⊢ iprop((∀ W', ⌜∀ p ∈ W', p ∈ W ∨ p.2 = none⌝
            -∗ ((indH d i ↦[(indAt i).view.set]{qi} ai) ∗ (mskH d i ↦[(mskAt i).view.set]{qm} am))
            -∗ ((∃ f, indL d i ↦{fullShare} f) ∗ (∃ f, mskL d i ↦{fullShare} f))
            -∗ (semVal (thr d i, .dma cc0_scoped0.sem) 0 ∗ semVal (thr d i, .dma cc0_scoped1.sem) 0)
            -∗ Transfers.Flight (countersEmb (nD := nD) (τ := τ) (sig := sig) (Ix := HIx 1) (Val := Elt F) (Name := ℕ)) (thr d i) (.dma cc0_scratch8.sem)
                (default : HIx 1) sTgt.view.dmaCredit iprop((tgtL d i ↦{fullShare} tgtOf (F := F) i at') ∗ (tgtH d i ↦[(tgtAt i).view.set]{qt} at'))
            -∗ owes (thr d i) O W'
            -∗ wpT d i (k (loHalf (indOf (F := F) i ai)) (loHalf (mskOf (F := F) i am)) (hiHalf (indOf (F := F) i ai)) (hiHalf (mskOf (F := F) i am))) Q)
          -∗ wpT d i (start i k) Q) := by
  unfold start
  iintro ⟨#Hmw, ⟨Hi, Hm, Ht⟩, ⟨H0, H1, H2⟩, ⟨S0, S1, S2⟩, HO⟩ Hk
  iapply (Transfers.wp_dmaLocal countersEmb 𝒱₀ (thr d i) none (src := indAt i) (dst := sInd) (default : HIx 1) sInd.view.dmaCredit rfl (by decide) (Finset.subset_univ _)) $$ [Hi H0 S0]
  · isplitl [Hi]; · iexact Hi
    isplitl [H0]; · iexact H0
    iexact S0
  iintro Hf
  iapply (Transfers.wp_waitLocalO countersEmb 𝒱₀ (thr d i) none (default : HIx 1) (rfl : sInd.view.dmaCredit = _)) $$ [Hf HO]
  · isplitl [Hf]; · iexact Hf
    isplitl [HO]; · iexact HO
    iapply (Transfers.MayWaits.elim (SemLoc.dma cc0_scoped0.sem)) $$ Hmw
  iintro ⟨⟨H0, Hi⟩, S0, HO⟩
  iapply (Transfers.wp_dmaLocal countersEmb 𝒱₀ (thr d i) none (src := mskAt i) (dst := sMsk) (default : HIx 1) sMsk.view.dmaCredit rfl (by decide) (Finset.subset_univ _)) $$ [Hm H1 S1]
  · isplitl [Hm]; · iexact Hm
    isplitl [H1]; · iexact H1
    iexact S1
  iintro Hf
  iapply (Transfers.wp_waitLocalO countersEmb 𝒱₀ (thr d i) none (default : HIx 1) (rfl : sMsk.view.dmaCredit = _)) $$ [Hf HO]
  · isplitl [Hf]; · iexact Hf
    isplitl [HO]; · iexact HO
    iapply (Transfers.MayWaits.elim (SemLoc.dma cc0_scoped1.sem)) $$ Hmw
  iintro ⟨⟨H1, Hm⟩, S1, HO⟩
  iapply (Transfers.wp_dmaLocal countersEmb 𝒱₀ (thr d i) none (src := tgtAt i) (dst := sTgt) (default : HIx 1) sTgt.view.dmaCredit rfl (by decide) (Finset.subset_univ _)) $$ [Ht H2 S2]
  · isplitl [Ht]; · iexact Ht
    isplitl [H2]; · iexact H2
    iexact S2
  iintro Hf
  have e0 : View.write (Elt F) sInd.view f0 (ReadAs.same.apply (View.read (Elt F) (indAt i).view ai)) Finset.univ = indOf (F := F) i ai := View.write_whole_univ _ _ _
  have e1 : View.write (Elt F) sMsk.view f1 (ReadAs.same.apply (View.read (Elt F) (mskAt i).view am)) Finset.univ = mskOf (F := F) i am := View.write_whole_univ _ _ _
  have e2 : View.write (Elt F) sTgt.view f2 (ReadAs.same.apply (View.read (Elt F) (tgtAt i).view at')) Finset.univ = tgtOf (F := F) i at' := View.write_whole_univ _ _ _
  ihave H0 := (Entails.of_eq (congrArg (fun f => (sInd.view.loc (thr d i) ↦{fullShare} f : sProp 𝕄)) e0)) $$ H0
  ihave H1 := (Entails.of_eq (congrArg (fun f => (sMsk.view.loc (thr d i) ↦{fullShare} f : sProp 𝕄)) e1)) $$ H1
  ihave Hf := (Entails.of_eq (congrArg (fun f => Transfers.Flight (countersEmb (nD := nD) (τ := τ) (sig := sig) (Ix := HIx 1) (Val := Elt F) (Name := ℕ)) (thr d i)
    (.dma cc0_scratch8.sem) (default : HIx 1) sTgt.view.dmaCredit iprop((sTgt.view.loc (thr d i) ↦{fullShare} f) ∗ ((tgtAt i).view.loc (thr d i) ↦[(tgtAt i).view.set]{qt} at'))) e2)) $$ Hf
  iapply (wp_load 𝒱₀ (thr d i) none Set.univ (m := sInd) (r := rectLo.toLoadRect) (Finset.subset_univ _)) $$ H0
  iintro H0
  iapply (wp_load 𝒱₀ (thr d i) none Set.univ (m := sMsk) (r := rectLo.toLoadRect) (Finset.subset_univ _)) $$ H1
  iintro H1
  iapply (wp_load 𝒱₀ (thr d i) none Set.univ (m := sInd) (r := rectHi.toLoadRect) (Finset.subset_univ _)) $$ H0
  iintro H0
  iapply (wp_load 𝒱₀ (thr d i) none Set.univ (m := sMsk) (r := rectHi.toLoadRect) (Finset.subset_univ _)) $$ H1
  iintro H1
  iapply Hk $$ %_ [] [Hi Hm] [H0 H1] [S0 S1] Hf HO
  · ipureintro
    intro p hp
    rcases Finset.mem_insert.mp hp with hp | hp; · exact .inr (hp ▸ rfl)
    rcases Finset.mem_insert.mp hp with hp | hp; · exact .inr (hp ▸ rfl)
    exact .inl hp
  · isplitl [Hi]
    · iexact Hi
    · iexact Hm
  · isplitl [H0]
    · iexists _; iexact H0
    · iexists _; iexact H1
  · isplitl [S0]
    · iexact S0
    · iexact S1

/-- The first half of the partial result zeroed, and the targets waited for. -/
theorem wp_zeroWait {Q : α → sProp 𝕄} (o : Buf (Elt F) (outL d i)) {D : sProp 𝕄}
    {O : CellTallies nD τ sig (HIx 1)} {W : Waits sig (HIx 1)} (k : Prog (ET F i) α) :
    iprop(□ Transfers.MayWaits (thr d i) (default : HIx 1) O ∗ (outL d i ↦{fullShare} o)
        ∗ Transfers.Flight (countersEmb (nD := nD) (τ := τ) (sig := sig) (Ix := HIx 1) (Val := Elt F) (Name := ℕ)) (thr d i) (.dma cc0_scratch8.sem)
            (default : HIx 1) sTgt.view.dmaCredit D
        ∗ owes (thr d i) O W)
      ⊢ iprop((∀ o', ⌜loOf o' = zero16⌝ -∗ (outL d i ↦{fullShare} o') -∗ D -∗ semVal (thr d i, .dma cc0_scratch8.sem) 0
            -∗ owes (thr d i) O (insert (SemLoc.dma cc0_scratch8.sem, (default : HIx 1)) W) -∗ wpT d i k Q)
          -∗ wpT d i (zeroWait i k) Q) := by
  unfold zeroWait
  iintro ⟨#Hmw, Ho, Hf, HO⟩ Hk
  iapply (wp_load 𝒱₀ (thr d i) none Set.univ (m := sOut) (r := rectLo.toLoadRect) (Finset.subset_univ _)) $$ Ho
  iintro Ho
  iapply (wp_store 𝒱₀ (thr d i) none Set.univ (m := sOut) (r := rectLo) (Mk := Finset.univ) (Finset.subset_univ _)) $$ Ho
  iintro Ho
  iapply (Transfers.wp_waitLocalO countersEmb 𝒱₀ (thr d i) none (default : HIx 1) (rfl : sTgt.view.dmaCredit = _)) $$ [Hf HO]
  · isplitl [Hf]; · iexact Hf
    isplitl [HO]; · iexact HO
    iapply (Transfers.MayWaits.elim (SemLoc.dma cc0_scratch8.sem)) $$ Hmw
  iintro ⟨HD, HS, HO⟩
  iapply Hk $$ %_ [] Ho HD HS HO
  ipureintro
  rw [loOf_write, shapeCast_id]

/-- The end: the count stored, and the partial result copied out. -/
theorem wp_finish {Q : PUnit → sProp 𝕄} (o : Buf (Elt F) (outL d i)) (n : BitVec 32) (fo : Buf (Elt F) (outH d i))
    {O : CellTallies nD τ sig (HIx 1)} {W : Waits sig (HIx 1)} :
    iprop(□ Transfers.MayWaits (thr d i) (default : HIx 1) O ∗ (outL d i ↦{fullShare} o) ∗ (outH d i ↦[(outAt i).view.set]{fullShare} fo)
        ∗ semVal (thr d i, .dma cc0_scoped2.sem) 0 ∗ owes (thr d i) O W)
      ⊢ iprop(((∃ f, outL d i ↦{fullShare} f)
            -∗ (outH d i ↦[(outAt i).view.set]{fullShare} (outAt i).view.write (Elt F) fo (joinHalves (loOf o) (countVec n)) Finset.univ)
            -∗ semVal (thr d i, .dma cc0_scoped2.sem) 0 -∗ owes (thr d i) O (insert (SemLoc.dma cc0_scoped2.sem, (default : HIx 1)) W) -∗ Q ⟨⟩)
          -∗ wpT d i (finish i n) Q) := by
  unfold finish
  iintro ⟨#Hmw, Ho, Hd, S2, HO⟩ Hk
  iapply (wp_load 𝒱₀ (thr d i) none Set.univ (m := sOut) (r := rectHi.toLoadRect) (Finset.subset_univ _)) $$ Ho
  iintro Ho
  iapply (wp_store 𝒱₀ (thr d i) none Set.univ (m := sOut) (r := rectHi) (Mk := Finset.univ) (Finset.subset_univ _)) $$ Ho
  iintro Ho
  have e : View.write (Elt F) (sOut.access rectHi) o (shapeCast S16 (countVec (F := F) n) shapeCasts_S16_S16) Finset.univ = joinHalves (loOf o) (countVec n) := by
    rw [write_hi, shapeCast_id]
  have hs : sOut.view.set = Finset.univ := View.set_whole _
  ihave Ho := (Entails.of_eq (show (outL d i ↦{fullShare} View.write (Elt F) (sOut.access rectHi) o (shapeCast S16 (countVec (F := F) n) shapeCasts_S16_S16) Finset.univ : sProp 𝕄)
    = (outL d i ↦[sOut.view.set]{fullShare} joinHalves (loOf o) (countVec n)) by rw [e, hs])) $$ Ho
  iapply (Transfers.wp_dmaLocal countersEmb 𝒱₀ (thr d i) none (src := sOut) (dst := outAt i) (default : HIx 1) (outAt i).view.dmaCredit rfl (show (0 : ℕ) < 1024 by decide) (Finset.Subset.refl _)) $$ [Ho Hd S2]
  · isplitl [Ho]; · iexact Ho
    isplitl [Hd]; · iexact Hd
    iexact S2
  iintro Hf
  iapply (Transfers.wp_waitLocalO countersEmb 𝒱₀ (thr d i) none (default : HIx 1) (rfl : (outAt i).view.dmaCredit = _)) $$ [Hf HO]
  · isplitl [Hf]; · iexact Hf
    isplitl [HO]; · iexact HO
    iapply (Transfers.MayWaits.elim (SemLoc.dma cc0_scoped2.sem)) $$ Hmw
  iintro ⟨⟨Hd, Ho⟩, S2, HO⟩
  iapply (Entails.of_eq (wp_pure (α := PUnit) ..).symm)
  imodintro
  iapply Hk $$ [Ho] [Hd] S2 HO
  · iexists (joinHalves (loOf o) (countVec n))
    rw [hs]; iexact Ho
  · iexact Hd

end Wp

end Cert.Proof.Sc
-- ==== Proof.BodyEq.lean ====
/-
  The printed task of a vector subcore is the regrouped one (Frag.lean).
-/
module

public import proofs.«01_k».proof.Proof.Frag

@[expose] public section

noncomputable section

namespace Cert.Proof.Sc

open Cert.KernelIdeal Cert.KernelIdeal.Gen
open Idealize.ShloMosaic Idealize.SL.Sem

variable {F : FTy → Type} [FloatOps F]
variable (i : grid0.Coords) {α β : Type}

theorem ret_bind' (a : α) (f : α → Prog (ET F i) β) : (Prog.ret a : Prog (ET F i) α) >>= f = f a := rfl

theorem zeroWait_bind (k : Prog (ET F i) α) (f : α → Prog (ET F i) β) : zeroWait i k >>= f = zeroWait i (k >>= f) := rfl

theorem fires_app (sem : DmaSems sig S_) (live : Fin 32 → BitVec 1) (base : Fin 32 → BitVec 32) (l l' : List (Fin 32)) (k : Prog (ET F i) α) :
    fires i sem live base l (fires i sem live base l' k) = fires i sem live base (l ++ l') k := List.foldr_append.symm
theorem drains_app (sem : DmaSems sig S_) (live : Fin 32 → BitVec 1) (l l' : List (Fin 32)) (k : Prog (ET F i) α) :
    drains i sem live l (drains i sem live l' k) = drains i sem live (l ++ l') k := List.foldr_append.symm
theorem computes_app (live : Fin 32 → BitVec 1) (l l' : List (Fin 32)) (k : Prog (ET F i) α) :
    computes i live l (computes i live l' k) = computes i live (l ++ l') k := List.foldr_append.symm
theorem counts_app (live : Fin 32 → BitVec 1) (l l' : List (Fin 32)) (n : BitVec 32) :
    counts live l' (counts live l n) = counts live (l ++ l') n := List.foldl_append.symm

/-- The printed task is the regrouped one. -/
theorem body_eq :
    cc0__sc_body (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2 = task i := by
  have h65 : ∀ {β : Type} (f : _ → Prog (ET F i) β), (k0_part65 (F := F) i tabV (Memref.isWhole_whole _) indV (Memref.isWhole_whole _) mskV (Memref.isWhole_whole _) tgtV (Memref.isWhole_whole _)
      outV (Memref.isWhole_whole _) sInd (Memref.isWhole_whole _) sMsk (Memref.isWhole_whole _) sTgt (Memref.isWhole_whole _)
      sIdx (Memref.isWhole_whole _) sRow (Memref.isWhole_whole _) sOut (Memref.isWhole_whole _) cc0_scratch6 cc0_scratch7 cc0_scratch8
      cc0_scoped0 cc0_scoped1 cc0_scoped2 >>= f) = start i fun x0 y0 x1 y1 =>
      f ⟨lanes, lanesHW, shapeCast S16 y0 shapeCasts_S16_S16, bases i 0#32 x0, shapeCast S16 x1 shapeCasts_S16_S16,
        shapeCast S16 y1 shapeCasts_S16_S16, shrui (addi (broadcast S16 (Scalar.addi (firstPair i) 16#32)) lanes) (broadcast S16 7#32),
        broadcast S16 4194304#32⟩ := fun f => rfl
  unfold cc0__sc_body
  refine (h65 _).trans ?_
  refine congrArg (start i) (funext fun x0 => funext fun y0 => funext fun x1 => funext fun y1 => ?_)
  dsimp only
  rw [part66_eq i (shapeCast S16 y0 shapeCasts_S16_S16) (shapeCast S16 y1 shapeCasts_S16_S16) (bases i 0#32 x0)]
  generalize shapeCast S16 y0 shapeCasts_S16_S16 = m0
  generalize shapeCast S16 y1 shapeCasts_S16_S16 = m1
  have hb1 : addi (muli (shrui (addi (broadcast S16 (Scalar.addi (firstPair i) 16#32)) lanes) (broadcast S16 7#32)) (broadcast S16 4194304#32))
      (shapeCast S16 x1 shapeCasts_S16_S16 : IVec S16 32) = bases i 16#32 x1 := rfl
  rw [hb1]
  generalize bases i 16#32 x1 = b1
  generalize bases i 0#32 x0 = b0
  rw [fires_bind, ret_bind']
  dsimp only
  rw [part67_eq, fires_bind, ret_bind']
  dsimp only
  rw [part68_eq, fires_bind, fires_bind, ret_bind']
  dsimp only
  rw [part69_eq, fires_bind, ret_bind']
  dsimp only
  rw [part70_eq, fires_bind, ret_bind']
  dsimp only
  rw [part71_eq, fires_bind, zeroWait_bind, drains_bind, ret_bind']
  dsimp only
  generalize hlv : lives m0 m1 = lv
  generalize lane2 b0 b1 = base
  rw [part72_eq, drains_bind, computes_bind, ret_bind']
  rw [part73_eq, computes_bind, drains_bind, ret_bind']
  rw [part74_eq, drains_bind, computes_bind, ret_bind']
  rw [part75_eq, computes_bind, ret_bind']
  dsimp only
  rw [part76_eq, ret_bind']
  dsimp only
  rw [part77_eq, ret_bind']
  dsimp only
  simp only [fires_app, drains_app, computes_app, counts_app, List.cons_append, List.nil_append]
  rfl

end Cert.Proof.Sc
-- ==== Proof.Task.lean ====
/-
  A subcore's task, whole.
-/
module

public import proofs.«01_k».proof.Proof.Copies
public import proofs.«01_k».proof.Proof.BodyEq

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx)
open Idealize.SL Idealize.SL.RA
open Idealize.SL.BI (sProp bigSep bigSepL)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-! ## All the pairs -/

theorem get_pairs : ∀ n : Fin 32, (lo ++ hi).getD n.val 0 = n := by decide

theorem bigSep_pairs (Φ : Fin 32 → sProp 𝕄) : bigSep Finset.univ Φ = iprop(bigSepL lo Φ ∗ bigSepL hi Φ) := by
  rw [← BI.bigSepL_append, ← bigSep_get]
  refine BI.bigSep_congr fun (x : Fin 32) _ => congrArg Φ ?_
  refine (get_pairs x).symm.trans ?_
  exact (List.getElem_eq_getD (l := lo ++ hi) (i := x.val) (h := x.isLt) 0).symm

/-- The two scratches of the gathers and a share of the table are the pairs'. -/
theorem all_pairs (q : PosShare TreeShare) (ft : Buf (Elt F) (tabL d i)) (g : Buf (Elt F) (rowL d i)) (f : Buf (Elt F) (idxL d i)) :
    (iprop(((rowL d i ↦{fullShare} g) ∗ (idxL d i ↦{fullShare} f)) ∗ (tabL d i ↦{q} ft)) : sProp 𝕄)
      = iprop(bigSepL lo (pair d i q ft g f) ∗ bigSepL hi (pair d i q ft g f)) := by
  rw [← bigSep_pairs]
  unfold pair
  rw [BI.bigSep_sep', BI.bigSep_sep', ← pointsTo_biUnion Finset.univ (ℓ := rowL d i) pairSet pairSet_disjoint,
    ← pointsTo_biUnion Finset.univ (ℓ := idxL d i) pairSet pairSet_disjoint,
    ← pointsTo_piecesOf Finset.univ ft (by decide : 0 < 32) q, pairSet_cover]

/-- A list's chain is that of its unmasked pairs and that of its masked ones. -/
theorem bigSepL_filter (b : Fin 32 → Bool) (Φ : Fin 32 → sProp 𝕄) : ∀ l : List (Fin 32),
    iprop(bigSepL (l.filter b) Φ ∗ bigSepL (l.filter fun p => !b p) Φ) ⊢ bigSepL l Φ
  | [] => by
    iintro ⟨H, -⟩; iexact H
  | p :: l => by
    rw [BI.bigSepL_cons']
    by_cases h : b p
    · rw [List.filter_cons_of_pos h, List.filter_cons_of_neg (by simp [h]), BI.bigSepL_cons']
      iintro ⟨⟨Hp, H⟩, H'⟩
      isplitl [Hp]
      · iexact Hp
      · iapply (bigSepL_filter b Φ l)
        isplitl [H]
        · iexact H
        · iexact H'
    · rw [List.filter_cons_of_neg h, List.filter_cons_of_pos (by simpa using h), BI.bigSepL_cons']
      iintro ⟨H, ⟨Hp, H'⟩⟩
      isplitl [Hp]
      · iexact Hp
      · iapply (bigSepL_filter b Φ l)
        isplitl [H]
        · iexact H
        · iexact H'

/-- Contents that are `g` at the unmasked pairs and `f` at the masked ones. -/
def mix {α : Type} (lv : Fin 32 → BitVec 1) (g f : S8192.Idx → α) : S8192.Idx → α := fun x => if isLive lv (pairOf x) then g x else f x

theorem pair_mix_live (lv : Fin 32 → BitVec 1) (q : PosShare TreeShare) (ft : Buf (Elt F) (tabL d i)) (g g' : Buf (Elt F) (rowL d i)) (f f' : Buf (Elt F) (idxL d i))
    (p : Fin 32) (h : isLive lv p = true) : pair d i q ft g f p = pair d i q ft (mix lv g g') (mix lv f f') p := by
  unfold pair
  refine congrArg₂ (fun a b => iprop(a ∗ b)) (congrArg₂ (fun a b => iprop(a ∗ b)) (pointsTo_congr fun x hx => ?_) (pointsTo_congr fun x hx => ?_)) rfl <;>
  · unfold mix; rw [mem_pairSet.mp hx, h]; rfl
theorem pair_mix_dead (lv : Fin 32 → BitVec 1) (q : PosShare TreeShare) (ft : Buf (Elt F) (tabL d i)) (g g' : Buf (Elt F) (rowL d i)) (f f' : Buf (Elt F) (idxL d i))
    (p : Fin 32) (h : isLive lv p = false) : pair d i q ft g' f' p = pair d i q ft (mix lv g g') (mix lv f f') p := by
  unfold pair
  refine congrArg₂ (fun a b => iprop(a ∗ b)) (congrArg₂ (fun a b => iprop(a ∗ b)) (pointsTo_congr fun x hx => ?_) (pointsTo_congr fun x hx => ?_)) rfl <;>
  · unfold mix; rw [mem_pairSet.mp hx, h]; rfl

/-- The unmasked pairs gathered and the masked ones as they were, at once. -/
theorem pairs_mix (lv : Fin 32 → BitVec 1) (q : PosShare TreeShare) (ft : Buf (Elt F) (tabL d i)) (g g' : Buf (Elt F) (rowL d i)) (f f' : Buf (Elt F) (idxL d i))
    (l : List (Fin 32)) :
    iprop(bigSepL (l.filter (isLive lv)) (pair d i q ft g f) ∗ bigSepL (l.filter fun p => !isLive lv p) (pair d i q ft g' f'))
      ⊢ bigSepL l (pair d i q ft (mix lv g g') (mix lv f f')) := by
  iintro ⟨H, H'⟩
  iapply (bigSepL_filter (isLive lv) _ l)
  isplitl [H]
  · iapply (BI.bigSepL_mono fun p hp => Entails.of_eq (pair_mix_live d i lv q ft g g' f f' p (List.mem_filter.mp hp).2)) $$ H
  · iapply (BI.bigSepL_mono fun p hp => Entails.of_eq (pair_mix_dead d i lv q ft g g' f f' p (by simpa using (List.mem_filter.mp hp).2))) $$ H'

/-! ## The task -/

/-- A subcore's unmasked pairs, and their first channels' addresses. -/
def lvOf (am : S1024.Idx → BitVec 32) : Fin 32 → BitVec 1 :=
  lives (loHalf (mskOf (F := F) i am)) (hiHalf (mskOf (F := F) i am))
def baseOf (ai : S1024.Idx → BitVec 32) : Fin 32 → BitVec 32 :=
  lane2 (bases (F := F) i 0#32 (loHalf (indOf (F := F) i ai))) (bases (F := F) i 16#32 (hiHalf (indOf (F := F) i ai)))

/-- The row of partial results a subcore computes: its sixteen partial losses, its count of unmasked pairs and zeros. -/
def outRow (ft : S33554432.Idx → Elt F .f32) (ai am : S1024.Idx → BitVec 32) (at' : S262144.Idx → Elt F .f32) : S32.Idx → Elt F .f32 :=
  joinHalves
    (accPairs (lvOf (F := F) i am) (gath (baseOf (F := F) i ai) ft) (tgtOf (F := F) i at') hi
      (accPairs (lvOf (F := F) i am) (gath (baseOf (F := F) i ai) ft) (tgtOf (F := F) i at') lo zero16))
    (countVec (counts (lvOf (F := F) i am) (lo ++ hi) 0#32))

theorem credit_eq (n : ℕ) : 0 + n * 8192 = 32 * (n * 256) := by omega

/-- What follows the loads. -/
theorem wp_rest {Q : PUnit → sProp 𝕄} (q : PosShare TreeShare) (lv : Fin 32 → BitVec 1) (base : Fin 32 → BitVec 32)
    (hb : ∀ x, (idxW base x).toNat < 33554432) (ft : Buf (Elt F) (tabL d i)) (fr : Buf (Elt F) (rowL d i)) (fi : Buf (Elt F) (idxL d i))
    (t : Buf (Elt F) (tgtL d i)) (o : Buf (Elt F) (outL d i)) (fo : Buf (Elt F) (outH d i)) (E : sProp 𝕄)
    {O : CellTallies nD τ sig (HIx 1)} {W : Waits sig (HIx 1)} :
    iprop(□ Transfers.MayWaits (thr d i) (default : HIx 1) O
        ∗ (((rowL d i ↦{fullShare} fr) ∗ (idxL d i ↦{fullShare} fi)) ∗ (tabL d i ↦{q} ft))
        ∗ (outL d i ↦{fullShare} o) ∗ (outH d i ↦[(outAt i).view.set]{fullShare} fo)
        ∗ (semVal (thr d i, .dma cc0_scratch6.sem) 0 ∗ semVal (thr d i, .dma cc0_scratch7.sem) 0 ∗ semVal (thr d i, .dma cc0_scoped2.sem) 0)
        ∗ Transfers.Flight (countersEmb (nD := nD) (τ := τ) (sig := sig) (Ix := HIx 1) (Val := Elt F) (Name := ℕ)) (thr d i) (.dma cc0_scratch8.sem)
            (default : HIx 1) sTgt.view.dmaCredit iprop((tgtL d i ↦{fullShare} t) ∗ E)
        ∗ owes (thr d i) O W)
      ⊢ iprop((((∃ f, rowL d i ↦{fullShare} f) ∗ (∃ f, idxL d i ↦{fullShare} f) ∗ (tabL d i ↦{q} ft))
            -∗ ((∃ f, tgtL d i ↦{fullShare} f) ∗ E) -∗ (∃ f, outL d i ↦{fullShare} f)
            -∗ (outH d i ↦[(outAt i).view.set]{fullShare} (outAt i).view.write (Elt F) fo
                (joinHalves (accPairs lv (gath base ft) t hi (accPairs lv (gath base ft) t lo zero16)) (countVec (counts lv (lo ++ hi) 0#32))) Finset.univ)
            -∗ (semVal (thr d i, .dma cc0_scratch6.sem) 0 ∗ semVal (thr d i, .dma cc0_scratch7.sem) 0 ∗ semVal (thr d i, .dma cc0_scoped2.sem) 0
              ∗ semVal (thr d i, .dma cc0_scratch8.sem) 0)
            -∗ (∃ W', ⌜∀ p ∈ W', p ∈ W ∨ p.2 = none⌝ ∗ owes (thr d i) O W') -∗ Q ⟨⟩)
          -∗ wpT d i (rest i lv base) Q) := by
  unfold rest
  rw [all_pairs]
  iintro ⟨#Hmw, ⟨Hlo, Hhi⟩, Ho, Hd, ⟨S6, S7, S2⟩, Hf, HO⟩ Hk
  imod (Transfers.batch_alloc' (countersEmb (nD := nD) (τ := τ) (sig := sig) (Ix := HIx 1) (Val := Elt F) (Name := ℕ)) (thr d i) (default : HIx 1) 32
    (delivs d i q base ft (lo.filter (isLive lv)))) $$ S6 with B6
  imod (Transfers.batch_alloc' (countersEmb (nD := nD) (τ := τ) (sig := sig) (Ix := HIx 1) (Val := Elt F) (Name := ℕ)) (thr d i) (default : HIx 1) 32
    (delivs d i q base ft (hi.filter (isLive lv)))) $$ S7 with B7
  iapply (wp_fires d i cc0_scratch6 q lv base hb ft fr fi (lo.filter (isLive lv)) _ lo [] rfl) $$ [Hlo B6]
  · isplitl [Hlo]
    · iexact Hlo
    · iexact B6
  iintro Dlo B6
  iapply (wp_fires d i cc0_scratch7 q lv base hb ft fr fi (hi.filter (isLive lv)) _ hi [] rfl) $$ [Hhi B7]
  · isplitl [Hhi]
    · iexact Hhi
    · iexact B7
  iintro Dhi B7
  iapply (wp_zeroWait d i o _) $$ [Ho Hf HO]
  · isplitr; · imodintro; iexact Hmw
    isplitl [Ho]; · iexact Ho
    isplitl [Hf]; · iexact Hf
    iexact HO
  iintro %o1 %ho1 Ho ⟨Ht, HE⟩ S8 HO
  iapply (wp_drains d i cc0_scratch6 lv (D := delivs d i q base ft (lo.filter (isLive lv))) (j := (lo.filter (isLive lv)).length * 256) _ lo 0 _ (credit_eq (lo.filter (isLive lv)).length).le) $$ [B6 HO]
  · isplitr; · imodintro; iexact Hmw
    isplitl [B6]; · iexact B6
    iexact HO
  iintro %W1 %hW1 B6 HO
  have e6 := credit_eq (lo.filter (isLive lv)).length
  ihave B6 := (Entails.of_eq (congrArg (fun u => batch d i (.dma cc0_scratch6.sem) 32 (delivs d i q base ft (lo.filter (isLive lv))) _ u) e6)) $$ B6
  imod (Transfers.batch_collect' (countersEmb (nD := nD) (τ := τ) (sig := sig) (Ix := HIx 1) (Val := Elt F) (Name := ℕ)) (thr d i) (by decide : 0 < 32)) $$ B6 with ⟨Llo, S6⟩
  ihave Llo := (Entails.of_eq (delivs_pairs d i q base ft (lo.filter (isLive lv)))) $$ Llo
  iapply (wp_computes d i q lv ft (gath base ft) (idxW base) t _ lo o1) $$ [Llo Ht Ho]
  · isplitl [Llo]; · iexact Llo
    isplitl [Ht]; · iexact Ht
    iexact Ho
  iintro %o2 %ho2 Llo Ht Ho
  iapply (wp_drains d i cc0_scratch7 lv (D := delivs d i q base ft (hi.filter (isLive lv))) (j := (hi.filter (isLive lv)).length * 256) _ hi 0 _ (credit_eq (hi.filter (isLive lv)).length).le) $$ [B7 HO]
  · isplitr; · imodintro; iexact Hmw
    isplitl [B7]; · iexact B7
    iexact HO
  iintro %W2 %hW2 B7 HO
  have e7 := credit_eq (hi.filter (isLive lv)).length
  ihave B7 := (Entails.of_eq (congrArg (fun u => batch d i (.dma cc0_scratch7.sem) 32 (delivs d i q base ft (hi.filter (isLive lv))) _ u) e7)) $$ B7
  imod (Transfers.batch_collect' (countersEmb (nD := nD) (τ := τ) (sig := sig) (Ix := HIx 1) (Val := Elt F) (Name := ℕ)) (thr d i) (by decide : 0 < 32)) $$ B7 with ⟨Lhi, S7⟩
  ihave Lhi := (Entails.of_eq (delivs_pairs d i q base ft (hi.filter (isLive lv)))) $$ Lhi
  iapply (wp_computes d i q lv ft (gath base ft) (idxW base) t _ hi o2) $$ [Lhi Ht Ho]
  · isplitl [Lhi]; · iexact Lhi
    isplitl [Ht]; · iexact Ht
    iexact Ho
  iintro %o3 %ho3 Lhi Ht Ho
  iapply (wp_finish d i o3 _ fo) $$ [Ho Hd S2 HO]
  · isplitr; · imodintro; iexact Hmw
    isplitl [Ho]; · iexact Ho
    isplitl [Hd]; · iexact Hd
    isplitl [S2]; · iexact S2
    iexact HO
  iintro Ho Hd S2 HO
  ihave Mlo := (pairs_mix d i lv q ft (gath base ft) fr (idxW base) fi lo) $$ [Llo Dlo]
  · isplitl [Llo]
    · iexact Llo
    · iexact Dlo
  ihave Mhi := (pairs_mix d i lv q ft (gath base ft) fr (idxW base) fi hi) $$ [Lhi Dhi]
  · isplitl [Lhi]
    · iexact Lhi
    · iexact Dhi
  ihave M := (Entails.of_eq (all_pairs d i q ft (mix lv (gath base ft) fr) (mix lv (idxW base) fi)).symm) $$ [Mlo Mhi]
  · isplitl [Mlo]
    · iexact Mlo
    · iexact Mhi
  icases M with ⟨⟨Hr, Hi⟩, Hs⟩
  have hv : loOf o3 = accPairs lv (gath base ft) t hi (accPairs lv (gath base ft) t lo zero16) := by rw [ho3, ho2, ho1]
  ihave Hd := (Entails.of_eq (congrArg (fun v => (outH d i ↦[(outAt i).view.set]{fullShare} (outAt i).view.write (Elt F) fo
                (joinHalves v (countVec (counts lv (lo ++ hi) 0#32))) Finset.univ : sProp 𝕄)) hv)) $$ Hd
  iapply Hk $$ [Hr Hi Hs] [Ht HE] Ho Hd [S6 S7 S2 S8] [HO]
  · isplitl [Hr]; · iexists _; iexact Hr
    isplitl [Hi]; · iexists _; iexact Hi
    iexact Hs
  · isplitl [Ht]; · iexists _; iexact Ht
    iexact HE
  · isplitl [S6]; · iexact S6
    isplitl [S7]; · iexact S7
    isplitl [S2]; · iexact S2
    iexact S8
  · iexists _; isplitr
    swap; · iexact HO
    ipureintro
    intro g hg
    rcases Finset.mem_insert.mp hg with hg | hg; · exact .inr (hg ▸ rfl)
    rcases hW2 g hg with hg | hg
    · rcases hW1 g hg with hg | hg
      · rcases Finset.mem_insert.mp hg with hg | hg; · exact .inr (hg ▸ rfl)
        exact .inl hg
      · exact .inr hg
    · exact .inr hg

/-- The task. -/
theorem wp_task {Q : PUnit → sProp 𝕄} (q qi qm qt : PosShare TreeShare) (ft : Buf (Elt F) (tabL d i)) (ai : Buf (Elt F) (indH d i)) (am : Buf (Elt F) (mskH d i))
    (at' : Buf (Elt F) (tgtH d i)) (hb : ∀ x, (idxW (baseOf (F := F) i ai) x).toNat < 33554432) (fo : Buf (Elt F) (outH d i))
    {O : CellTallies nD τ sig (HIx 1)} {W : Waits sig (HIx 1)} :
    iprop(□ Transfers.MayWaits (thr d i) (default : HIx 1) O
        ∗ ((tabL d i ↦{q} ft) ∗ (indH d i ↦[(indAt i).view.set]{qi} ai) ∗ (mskH d i ↦[(mskAt i).view.set]{qm} am) ∗ (tgtH d i ↦[(tgtAt i).view.set]{qt} at')
          ∗ (outH d i ↦[(outAt i).view.set]{fullShare} fo))
        ∗ ((∃ f, indL d i ↦{fullShare} f) ∗ (∃ f, mskL d i ↦{fullShare} f) ∗ (∃ f, tgtL d i ↦{fullShare} f) ∗ (∃ f, idxL d i ↦{fullShare} f)
          ∗ (∃ f, rowL d i ↦{fullShare} f) ∗ (∃ f, outL d i ↦{fullShare} f))
        ∗ (semVal (thr d i, .dma cc0_scratch6.sem) 0 ∗ semVal (thr d i, .dma cc0_scratch7.sem) 0 ∗ semVal (thr d i, .dma cc0_scratch8.sem) 0
          ∗ semVal (thr d i, .dma cc0_scoped0.sem) 0 ∗ semVal (thr d i, .dma cc0_scoped1.sem) 0 ∗ semVal (thr d i, .dma cc0_scoped2.sem) 0)
        ∗ owes (thr d i) O W)
      ⊢ iprop((((tabL d i ↦{q} ft) ∗ (indH d i ↦[(indAt i).view.set]{qi} ai) ∗ (mskH d i ↦[(mskAt i).view.set]{qm} am) ∗ (tgtH d i ↦[(tgtAt i).view.set]{qt} at')
          ∗ (outH d i ↦[(outAt i).view.set]{fullShare} (outAt i).view.write (Elt F) fo (outRow (F := F) i ft ai am at') Finset.univ))
        -∗ ((∃ f, indL d i ↦{fullShare} f) ∗ (∃ f, mskL d i ↦{fullShare} f) ∗ (∃ f, tgtL d i ↦{fullShare} f) ∗ (∃ f, idxL d i ↦{fullShare} f)
          ∗ (∃ f, rowL d i ↦{fullShare} f) ∗ (∃ f, outL d i ↦{fullShare} f))
        -∗ (semVal (thr d i, .dma cc0_scratch6.sem) 0 ∗ semVal (thr d i, .dma cc0_scratch7.sem) 0 ∗ semVal (thr d i, .dma cc0_scratch8.sem) 0
          ∗ semVal (thr d i, .dma cc0_scoped0.sem) 0 ∗ semVal (thr d i, .dma cc0_scoped1.sem) 0 ∗ semVal (thr d i, .dma cc0_scoped2.sem) 0)
        -∗ (∃ W', ⌜∀ p ∈ W', p ∈ W ∨ p.2 = none⌝ ∗ owes (thr d i) O W') -∗ Q ⟨⟩)
          -∗ wpT d i (task i) Q) := by
  unfold task
  iintro ⟨#Hmw, ⟨Hs, Hi, Hm, Ht, Hd⟩, ⟨⟨%f0, H0⟩, ⟨%f1, H1⟩, ⟨%f2, H2⟩, ⟨%f3, H3⟩, ⟨%f4, H4⟩, ⟨%f5, H5⟩⟩, ⟨S6, S7, S8, S0, S1, S2⟩, HO⟩ Hk
  iapply (wp_start d i qi qm qt ai am at' f0 f1 f2 _) $$ [Hi Hm Ht H0 H1 H2 S0 S1 S8 HO]
  · isplitr; · imodintro; iexact Hmw
    isplitl [Hi Hm Ht]
    · isplitl [Hi]; · iexact Hi
      isplitl [Hm]; · iexact Hm
      iexact Ht
    isplitl [H0 H1 H2]
    · isplitl [H0]; · iexact H0
      isplitl [H1]; · iexact H1
      iexact H2
    isplitl [S0 S1 S8]
    · isplitl [S0]; · iexact S0
      isplitl [S1]; · iexact S1
      iexact S8
    iexact HO
  iintro %W1 %hW1 ⟨Hi, Hm⟩ ⟨H0, H1⟩ ⟨S0, S1⟩ Hf HO
  rw [shapeCast_id, shapeCast_id]
  iapply (wp_rest d i q (lvOf (F := F) i am) (baseOf (F := F) i ai) hb ft f4 f3 (tgtOf (F := F) i at') f5 fo _) $$ [Hs Hd H3 H4 H5 S6 S7 S2 Hf HO]
  · isplitr; · imodintro; iexact Hmw
    isplitl [Hs H3 H4]
    · isplitl [H3 H4]
      · isplitl [H4]; · iexact H4
        iexact H3
      iexact Hs
    isplitl [H5]; · iexact H5
    isplitl [Hd]; · iexact Hd
    isplitl [S6 S7 S2]
    · isplitl [S6]; · iexact S6
      isplitl [S7]; · iexact S7
      iexact S2
    isplitl [Hf]; · iexact Hf
    iexact HO
  iintro ⟨H4, H3, Hs⟩ ⟨H2, Ht⟩ H5 Hd ⟨S6, S7, S2, S8⟩ ⟨%W2, %hW2, HO⟩
  iapply Hk $$ [Hs Hi Hm Ht Hd] [H0 H1 H2 H3 H4 H5] [S6 S7 S8 S0 S1 S2] [HO]
  · isplitl [Hs]; · iexact Hs
    isplitl [Hi]; · iexact Hi
    isplitl [Hm]; · iexact Hm
    isplitl [Ht]; · iexact Ht
    iexact Hd
  · isplitl [H0]; · iexact H0
    isplitl [H1]; · iexact H1
    isplitl [H2]; · iexact H2
    isplitl [H3]; · iexact H3
    isplitl [H4]; · iexact H4
    iexact H5
  · isplitl [S6]; · iexact S6
    isplitl [S7]; · iexact S7
    isplitl [S8]; · iexact S8
    isplitl [S0]; · iexact S0
    isplitl [S1]; · iexact S1
    iexact S2
  · iexists W2; isplitr
    swap; · iexact HO
    ipureintro
    intro g hg
    rcases hW2 g hg with hg | hg
    · exact hW1 g hg
    · exact .inr hg

end Cert.Proof.Sc
-- ==== Proof.Values.lean ====
/-
  A subcore's slices of the host arrays, and the addresses it gathers from, in numbers.
-/
module

public import proofs.«01_k».proof.Proof.Task
public import Idealize.ShloMosaic.Lib.Pointwise.Reshape

@[expose] public section

noncomputable section

namespace Cert.Proof.Sc

open Cert.KernelIdeal Cert.KernelIdeal.Gen
open Idealize.ShloMosaic Idealize.SL.Sem

variable {F : FTy → Type} [FloatOps F] (i : grid0.Coords)

/-! ## Where a subcore's slices lie -/

theorem i0_lt : (i 0).val < 2 := (i 0).isLt
theorem i1_lt : (i 1).val < 16 := (i 1).isLt

/-- The number of the subcore at grid coordinates `i`, among the thirty-two. -/
def wid : Fin 32 := ⟨2 * (i 1).val + (i 0).val, by have := i0_lt i; have := i1_lt i; omega⟩

/-- Pair `p` of subcore `w`, among all the pairs. -/
def pairIx (w p : Fin 32) : S1024.Idx := fun a => ⟨w.val * 32 + p.val, by obtain rfl := Subsingleton.elim a 0; show _ < 1024; omega⟩
/-- Element `x` of subcore `w`'s targets, among all the targets. -/
def tgtIx (w : Fin 32) (x : S8192.Idx) : S262144.Idx := fun a => ⟨w.val * 8192 + (x 0).val, by
  obtain rfl := Subsingleton.elim a 0; have : (x 0).val < 8192 := (x 0).isLt; show _ < 262144; omega⟩
/-- Element `z` of subcore `w`'s row of the partial results. -/
def outIx (w : Fin 32) (z : S32.Idx) : S32x32.Idx := fun a => match a with
  | 0 => w
  | 1 => z 0

/-- The place of an element of thirty-two. -/
def at32 (z : S32.Idx) : Fin 32 := z 0

theorem ext1024 {x y : S1024.Idx} (h : (x 0).val = (y 0).val) : x = y := by
  funext a; obtain rfl := Subsingleton.elim a 0; exact Fin.ext h
theorem ext262144 {x y : S262144.Idx} (h : (x 0).val = (y 0).val) : x = y := by
  funext a; obtain rfl := Subsingleton.elim a 0; exact Fin.ext h

theorem off1 : k0_off1 i 0 = (wid i).val * 32 := by
  rw [k0_off1_eq]; show 64 * (i 1).val + 32 * (i 0).val = (2 * (i 1).val + (i 0).val) * 32; omega
theorem off2 : k0_off2 i 0 = (wid i).val * 8192 := by
  rw [k0_off2_eq]; show 16384 * (i 1).val + 8192 * (i 0).val = (2 * (i 1).val + (i 0).val) * 8192; omega

/-- A subcore's row numbers are the slice of all of them. -/
theorem indOf_apply (a : S1024.Idx → BitVec 32) (y : S32.Idx) : indOf (F := F) i a y = a (pairIx (wid i) (at32 y)) := by
  refine congrArg a (ext1024 ?_)
  show k0_off1 i 0 + 1 * (y 0).val = (wid i).val * 32 + (y 0).val
  rw [off1]; omega
theorem mskOf_apply (a : S1024.Idx → BitVec 32) (y : S32.Idx) : mskOf (F := F) i a y = a (pairIx (wid i) (at32 y)) := by
  refine congrArg a (ext1024 ?_)
  show k0_off1 i 0 + 1 * (y 0).val = (wid i).val * 32 + (y 0).val
  rw [off1]; omega
/-- A subcore's targets are the slice of all of them. -/
theorem tgtOf_apply (a : S262144.Idx → Elt F .f32) (x : S8192.Idx) : tgtOf (F := F) i a x = a (tgtIx (wid i) x) := by
  refine congrArg a (ext262144 ?_)
  show k0_off2 i 0 + 1 * (x 0).val = (wid i).val * 8192 + (x 0).val
  rw [off2]; omega

/-! ## Lanes -/

theorem lanes_apply (y : S16.Idx) : lanes y = BitVec.ofNat 32 (y 0).val := by
  show BitVec.ofNat 32 (0 * 16 + (y 0).val) = _
  rw [Nat.zero_mul, Nat.zero_add]

/-- The index of lane `k`. -/
def laneIx (k : Fin 16) : S16.Idx := fun a => ⟨k.val, by obtain rfl := Subsingleton.elim a 0; exact k.isLt⟩

theorem lane_eq (v : IVec S16 32) (k : Fin 16) : lane v k = v (laneIx k) := by
  refine congrArg v (ext16 ?_)
  show k.val + 0 = k.val
  rfl

/-- A word of thirty-two given in two halves. -/
theorem lane2_halves (f : S32.Idx → BitVec 32) (p : Fin 32) : lane2 (loHalf f) (hiHalf f) p = f (fun a => ⟨p.val, by
    obtain rfl := Subsingleton.elim a 0; exact p.isLt⟩) := by
  unfold lane2
  split
  · rw [lane_eq]
    refine congrArg f (ext32 ?_)
    show 0 + 1 * p.val = p.val
    omega
  · rw [lane_eq]
    refine congrArg f (ext32 ?_)
    show 16 + 1 * (p.val - 16) = p.val
    omega

/-- A pair is unmasked by the mask's word for it. -/
theorem lvOf_eq (am : S1024.Idx → BitVec 32) (p : Fin 32) : lvOf (F := F) i am p = Scalar.cmpi .ne (am (pairIx (wid i) p)) 0#32 := by
  unfold lvOf lives
  rw [lane2_halves, mskOf_apply]
  rfl

/-! ## Addresses -/

theorem firstPair_toNat : (firstPair i).toNat = (wid i).val * 32 := by
  have h : (firstPair i).toNat = k0_off1 i 0 := rfl
  rw [h, off1]

theorem bases_toNat (off : BitVec 32) (x : Vec F S16 .i32) (y : S16.Idx) (ho : off.toNat ≤ 16) (hx : (x y : BitVec 32).toNat < 16384) :
    (bases (F := F) i off x y).toNat = ((wid i).val * 32 + off.toNat + (y 0).val) / 128 * 4194304 + (x y : BitVec 32).toNat := by
  have hy : (y 0).val < 16 := (y 0).isLt
  have hw := (wid i).isLt
  unfold bases
  rw [shapeCast_id]
  show ((((firstPair i + off) + lanes y) >>> (7#32 : BitVec 32).toNat) * 4194304#32 + x y : BitVec 32).toNat = _
  rw [lanes_apply]
  have e : ((firstPair i + off) + BitVec.ofNat 32 (y 0).val).toNat = (wid i).val * 32 + off.toNat + (y 0).val := by
    rw [BitVec.toNat_add, BitVec.toNat_add, firstPair_toNat, BitVec.toNat_ofNat]
    omega
  rw [BitVec.toNat_add, BitVec.toNat_mul, BitVec.toNat_ushiftRight, e]
  show ((((wid i).val * 32 + off.toNat + (y 0).val) >>> 7) * 4194304 % 4294967296 + _) % 4294967296 = _
  rw [Nat.shiftRight_eq_div_pow]
  show ((((wid i).val * 32 + off.toNat + (y 0).val) / 128) * 4194304 % 4294967296 + _) % 4294967296 = _
  omega

/-- Where the table's first channel of pair `p` starts. -/
theorem baseOf_toNat (ai : S1024.Idx → BitVec 32) (p : Fin 32) (hai : ∀ j, (ai j).toNat < 16384) :
    (baseOf (F := F) i ai p).toNat = ((wid i).val * 32 + p.val) / 128 * 4194304 + (ai (pairIx (wid i) p)).toNat := by
  have key : ∀ y, (indOf (F := F) i ai y).toNat < 16384 := fun y => by rw [indOf_apply]; exact hai _
  unfold baseOf lane2
  split
  · rename_i h
    rw [lane_eq, bases_toNat i 0#32 _ _ (by decide) (key _)]
    refine congrArg₂ (· + ·) rfl ?_
    show (indOf (F := F) i ai _).toNat = _
    rw [indOf_apply]
    refine congrArg (fun j => (ai j).toNat) (ext1024 ?_)
    show _ + (0 + 1 * p.val) = _ + p.val
    omega
  · rename_i h
    rw [lane_eq, bases_toNat i 16#32 _ _ (by decide) (key _)]
    refine congrArg₂ (· + ·) ?_ ?_
    · show ((wid i).val * 32 + 16 + (p.val - 16)) / 128 * 4194304 = _
      rw [show (wid i).val * 32 + 16 + (p.val - 16) = (wid i).val * 32 + p.val by omega]
    show (indOf (F := F) i ai _).toNat = _
    rw [indOf_apply]
    refine congrArg (fun j => (ai j).toNat) (ext1024 ?_)
    show _ + (16 + 1 * (p.val - 16)) = _ + p.val
    omega

/-- The address gathered from at an element: its pair's batch and row, and its channel. -/
theorem idxW_toNat (ai : S1024.Idx → BitVec 32) (hai : ∀ j, (ai j).toNat < 16384) (x : S8192.Idx) :
    (idxW (baseOf (F := F) i ai) x).toNat
      = ((wid i).val * 32 + (x 0).val / 256) / 128 * 4194304 + (ai (pairIx (wid i) (pairOf x))).toNat + (x 0).val % 256 * 16384 := by
  have hb := baseOf_toNat (F := F) i ai (pairOf x) hai
  have hx : (x 0).val < 8192 := (x 0).isLt
  have hw := (wid i).isLt
  have ha := hai (pairIx (wid i) (pairOf x))
  have hp : (pairOf x).val = (x 0).val / 256 := rfl
  rw [hp] at hb
  unfold idxW addrs
  rw [shapeCast_id]
  show ((baseOf (F := F) i ai (pairOf x) + BitVec.ofNat 32 ((blockOf x).val * 262144)) + lanes (laneOf x) * 16384#32 : BitVec 32).toNat = _
  rw [lanes_apply, BitVec.toNat_add, BitVec.toNat_add, BitVec.toNat_mul, hb]
  show (((_ + _) + ((x 0).val % 256 / 16 * 262144) % 4294967296) % 4294967296 + ((x 0).val % 16 % 4294967296 * 16384) % 4294967296) % 4294967296 = _
  generalize (ai (pairIx (wid i) (pairOf x))).toNat = n at *
  omega

/-- Every address is in the table. -/
theorem idxW_lt (ai : S1024.Idx → BitVec 32) (hai : ∀ j, (ai j).toNat < 16384) (x : S8192.Idx) :
    (idxW (baseOf (F := F) i ai) x).toNat < 33554432 := by
  rw [idxW_toNat i ai hai]
  have hx : (x 0).val < 8192 := (x 0).isLt
  have hw := (wid i).isLt
  have ha := hai (pairIx (wid i) (pairOf x))
  omega

/-! ## A subcore's row of the partial results -/

/-- The elements of row `w` of the partial results. -/
def rowSet (w : Fin 32) : Finset S32x32.Idx := Finset.univ.filter fun x => (x 0).val = w.val

theorem mem_rowSet {w : Fin 32} {x : S32x32.Idx} : x ∈ rowSet w ↔ (x 0).val = w.val := by simp [rowSet]

/-- The grid coordinates of the subcore numbered `w`. -/
def coordsOf (w : Fin 32) : grid0.Coords := fun
  | 0 => (⟨w.val % 2, Nat.mod_lt _ (by decide)⟩ : Fin 2)
  | 1 => (⟨w.val / 2, by omega⟩ : Fin 16)
  | ⟨_ + 2, h⟩ => absurd h (Nat.not_lt.2 (Nat.le_add_left _ _))

theorem coordsOf_wid : coordsOf (wid i) = i := by
  have h0 := i0_lt i
  have h1 := i1_lt i
  funext a
  match a with
  | 0 => apply Fin.ext; show (2 * (i 1).val + (i 0).val) % 2 = (i 0).val; omega
  | 1 => apply Fin.ext; show (2 * (i 1).val + (i 0).val) / 2 = (i 1).val; omega
theorem wid_coordsOf (w : Fin 32) : wid (coordsOf w) = w := by
  apply Fin.ext; show 2 * (w.val / 2) + w.val % 2 = w.val; omega

/-- The squeezed index of a row's element. -/
def unsq (z : S32.Idx) : S1x32.Idx := fun a => match a with
  | 0 => (0 : Fin 1)
  | 1 => (z 0 : Fin 32)

theorem unsq_eq (z : S32.Idx) (h : S32.numel = S1x32.numel) : Shape.reshapeEquiv h z = unsq z := by
  refine Shape.reshapeEquiv_eq_of_vals h z (unsq z) (0 * 32 + (z 0).val) (z 0).val ?_ ?_ (by omega)
  · exact rowMajor_val2 (d := S1x32.size) (unsq z) 32 rfl
  · exact rowMajor_val1 (d := S32.size) z

theorem outAt_emb (z : S32.Idx) : (outAt i).view.emb z = outIx (wid i) z := by
  show (outV.slice (Rect.unit (s := S32x32) (k0_off36 i) S1x32.size (k0_off36_inb i)) (fun _ => rfl)).view.emb (Shape.reshapeEquiv _ z) = _
  rw [unsq_eq]
  funext a
  apply Fin.ext
  match a with
  | 0 =>
    show k0_off36 i 0 + 1 * 0 = (wid i).val
    rw [k0_off36_eq]
    show 2 * (i 1).val + (i 0).val + 1 * 0 = 2 * (i 1).val + (i 0).val
    omega
  | 1 =>
    show k0_off36 i 1 + 1 * (z 0).val = (z 0).val
    rw [k0_off36_eq]
    show 0 + 1 * (z 0).val = (z 0).val
    omega

/-- The place within its row of an element of the partial results. -/
def colOf (x : S32x32.Idx) : S32.Idx := fun a => ⟨(x 1).val, by obtain rfl := Subsingleton.elim a 0; exact (x 1).isLt⟩

theorem outIx_colOf {w : Fin 32} {x : S32x32.Idx} (h : (x 0).val = w.val) : outIx w (colOf x) = x := by
  funext a
  apply Fin.ext
  match a with
  | 0 => exact h.symm
  | 1 => rfl

/-- A subcore writes its row. -/
theorem set_outAt : (outAt i).view.set = rowSet (wid i) := by
  ext x
  rw [mem_rowSet]
  constructor
  · intro h
    obtain ⟨z, -, rfl⟩ := Finset.mem_map.mp h
    exact congrArg (fun x : S32x32.Idx => (x 0).val) (outAt_emb i z)
  · intro h
    exact Finset.mem_map.mpr ⟨colOf x, Finset.mem_univ _, (outAt_emb i _).trans (outIx_colOf h)⟩

theorem write_outAt (fo : S32x32.Idx → Elt F .f32) (v : S32.Idx → Elt F .f32) (x : S32x32.Idx) (h : x ∈ rowSet (wid i)) :
    ((outAt i).view.write (Elt F) fo v Finset.univ : S32x32.Idx → Elt F .f32) x = v (colOf x) := by
  have e : (outAt i).view.emb (colOf x) = x := (outAt_emb i _).trans (outIx_colOf (mem_rowSet.mp h))
  have hw := View.write_emb_of_mem (v := (outAt i).view) (Val := Elt F) fo v (M := Finset.univ) (x := colOf x) (Finset.mem_univ _)
  exact (congrArg _ e.symm).trans hw

theorem rowSet_disjoint : ∀ w ∈ (Finset.univ : Finset (Fin 32)), ∀ w' ∈ (Finset.univ : Finset (Fin 32)), w ≠ w' → Disjoint (rowSet w) (rowSet w') := by
  intro w _ w' _ h
  rw [Finset.disjoint_left]
  intro x hx hx'
  exact h (Fin.ext ((mem_rowSet.mp hx).symm.trans (mem_rowSet.mp hx')))

theorem rowSet_cover : (Finset.univ : Finset (Fin 32)).biUnion rowSet = Finset.univ := by
  ext x
  simp only [Finset.mem_biUnion, Finset.mem_univ, true_and, iff_true]
  exact ⟨⟨(x 0).val, (x 0).isLt⟩, mem_rowSet.mpr rfl⟩

end Cert.Proof.Sc
-- ==== Proof.Tile.lean ====
/-
  The task of one vector subcore as the launch asks for it: what it is handed, what it hands back.
-/
module

public import Idealize.ShloMosaic.Lib.StableHlo.Run
public import proofs.«01_k».proof.Proof.Values

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx Pay tileRest ownBufs ownSems0 ownCells ownRefs mem_ownCells mem_ownRefs)
open Idealize.SL Idealize.SL.RA
open Idealize.SL.BI (sProp bigSep bigSepL bigSep_singleton bigSep_univ_of_subsingleton bigSep_univ_equiv bigSep_congr bigSep_emp_const)
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays the call works on -/

/-- The table, the row numbers, the mask, the targets and the partial results, among a device's buffers. -/
abbrev tab' : DevRef τ sig := Proc.devRef .tc (main_v0 : Ref sig .tc)
abbrev ind' : DevRef τ sig := Proc.devRef .tc (main_v1 : Ref sig .tc)
abbrev msk' : DevRef τ sig := Proc.devRef .tc (main_v2 : Ref sig .tc)
abbrev tgt' : DevRef τ sig := Proc.devRef .tc (main_v3 : Ref sig .tc)
abbrev out' : DevRef τ sig := Proc.devRef .tc (main_v4 : Ref sig .tc)

-- What each device's buffers hold before the call.
variable (U : Dev nD → Valuation τ sig (Elt F))

/-- Subcore `w`'s share of an array all of them read. -/
def shareOf (w : Fin 32) : PosShare TreeShare := pieceOf fullShare 32 (by decide) w

/-- The number of subcore `s` of SparseCore `c`. -/
def numOf (c : Fin 2) (s : Fin 16) : Fin 32 := ⟨2 * s.val + c.val, by omega⟩

variable [FloatOps F]

/-- The partial results the subcores leave. -/
def partials (d : Dev nD) : S32x32.Idx → Elt F .f32 := fun x =>
  outRow (F := F) (coordsOf ⟨(x 0).val, (x 0).isLt⟩) (U d tab') (U d ind') (U d msk') (U d tgt') (colOf x)

/-- What subcore `w` works on, its row of the partial results at `f`: shares of the four arrays read, and the row. -/
def handed (d : Dev nD) (w : Fin 32) (f : S32x32.Idx → Elt F .f32) : sProp 𝕄 :=
  iprop((((d, tab') : Loc nD τ sig) ↦{shareOf w} U d tab') ∗ (((d, ind') : Loc nD τ sig) ↦{shareOf w} U d ind')
    ∗ (((d, msk') : Loc nD τ sig) ↦{shareOf w} U d msk') ∗ (((d, tgt') : Loc nD τ sig) ↦{shareOf w} U d tgt')
    ∗ (((d, out') : Loc nD τ sig) ↦[rowSet w]{fullShare} f))

instance handed_storable (d : Dev nD) (w : Fin 32) (f : S32x32.Idx → Elt F .f32) : BI.Storable (upEmb : UEmb _ 𝕄) (handed U d w f) := by
  unfold handed; infer_instance

/-- A SparseCore takes what its sixteen subcores work on and brings it back, the partial results in place. -/
def P : (K (F := F)).Pay (nD := nD) (Val := Elt F) (Name := ℕ) (U := UU) where
  st := fun q d c => match q with
    | 0 => bigSep Finset.univ fun s : Fin ((K (F := F)).nSub 0) => handed U d (numOf (Fin.cast nCore_zero c) (Fin.cast nSub_zero s)) (U d out')
  dn := fun q d c => match q with
    | 0 => bigSep Finset.univ fun s : Fin ((K (F := F)).nSub 0) => handed U d (numOf (Fin.cast nCore_zero c) (Fin.cast nSub_zero s)) (partials U d)
  go := fun q d c s => match q with | 0 => handed U d (numOf (Fin.cast nCore_zero c) (Fin.cast nSub_zero s)) (U d out')
  td := fun q d c s => match q with | 0 => handed U d (numOf (Fin.cast nCore_zero c) (Fin.cast nSub_zero s)) (partials U d)
  x := fun _ _ => iprop(emp)

instance P_storable : (P U).IsStorable where
  st q d c := match q with
    | 0 => (inferInstance : BI.Storable (upEmb : UEmb _ 𝕄)
      (bigSep Finset.univ fun s : Fin ((K (F := F)).nSub 0) => handed U d (numOf (Fin.cast nCore_zero c) (Fin.cast nSub_zero s)) (U d out')))
  dn q d c := match q with
    | 0 => (inferInstance : BI.Storable (upEmb : UEmb _ 𝕄)
      (bigSep Finset.univ fun s : Fin ((K (F := F)).nSub 0) => handed U d (numOf (Fin.cast nCore_zero c) (Fin.cast nSub_zero s)) (partials U d)))
  go q d c s := match q with
    | 0 => (inferInstance : BI.Storable (upEmb : UEmb _ 𝕄) (handed U d (numOf (Fin.cast nCore_zero c) (Fin.cast nSub_zero s)) (U d out')))
  td q d c s := match q with
    | 0 => (inferInstance : BI.Storable (upEmb : UEmb _ 𝕄) (handed U d (numOf (Fin.cast nCore_zero c) (Fin.cast nSub_zero s)) (partials U d)))

/-- What the run asks of the row numbers: each is below the length of a channel. -/
def PreOK : Prop := ∀ (d : Dev nD) (j : S1024.Idx), (U d ind' j : BitVec 32).toNat < 16384

/-! ## A subcore's own buffers and semaphores -/

section Tile

variable (d : Dev nD) (i : grid0.Coords)

/-- The semaphores the task uses. -/
def semSet : Finset (SemLoc sig) :=
  {.dma cc0_scratch6.sem, .dma cc0_scratch7.sem, .dma cc0_scratch8.sem, .dma cc0_scoped0.sem, .dma cc0_scoped1.sem, .dma cc0_scoped2.sem}
/-- The scratches the task uses. -/
def refSet : Finset (Ref sig .scVector) := {cc0_scratch0, cc0_scratch1, cc0_scratch2, cc0_scratch3, cc0_scratch4, cc0_scratch5}

omit [FloatOps F] in
theorem ownSems0_V :
    (ownSems0 (thr d i) : sProp 𝕄)
      = iprop((semVal (thr d i, .dma cc0_scratch6.sem) 0 ∗ semVal (thr d i, .dma cc0_scratch7.sem) 0 ∗ semVal (thr d i, .dma cc0_scratch8.sem) 0
          ∗ semVal (thr d i, .dma cc0_scoped0.sem) 0 ∗ semVal (thr d i, .dma cc0_scoped1.sem) 0 ∗ semVal (thr d i, .dma cc0_scoped2.sem) 0)
        ∗ bigSep (ownCells (thr d i) \ semSet.image fun s => ((thr d i, s) : GSem nD τ sig)) fun g => semVal g 0) := by
  have hs : semSet.image (fun s => ((thr d i, s) : GSem nD τ sig)) ⊆ ownCells (thr d i) := by
    intro g hg
    obtain ⟨s, hs, rfl⟩ := Finset.mem_image.mp hg
    exact mem_ownCells.mpr ⟨rfl, (show ∀ s ∈ semSet, (s : SemLoc sig).isScoped .scVector = true by decide) s hs⟩
  have hb : bigSep semSet (fun s => (semVal ((thr d i, s) : GSem nD τ sig) 0 : sProp 𝕄))
      = iprop(semVal (thr d i, .dma cc0_scratch6.sem) 0 ∗ semVal (thr d i, .dma cc0_scratch7.sem) 0 ∗ semVal (thr d i, .dma cc0_scratch8.sem) 0
          ∗ semVal (thr d i, .dma cc0_scoped0.sem) 0 ∗ semVal (thr d i, .dma cc0_scoped1.sem) 0 ∗ semVal (thr d i, .dma cc0_scoped2.sem) 0) := by
    unfold semSet
    rw [SparseCore.bigSep_insert' (by decide), SparseCore.bigSep_insert' (by decide), SparseCore.bigSep_insert' (by decide),
      SparseCore.bigSep_insert' (by decide), SparseCore.bigSep_insert' (by decide), bigSep_singleton]
  unfold SparseCore.Cfg.ownSems0
  rw [SparseCore.bigSep_sdiff_split' hs, SparseCore.bigSep_image_of_injOn (fun a _ b _ e => (Prod.mk.inj e).2), hb]

omit [FloatOps F] in
theorem ownBufs_V :
    (ownBufs (thr d i) : sProp 𝕄)
      = iprop(((∃ f, indL d i ↦{fullShare} f) ∗ (∃ f, mskL d i ↦{fullShare} f) ∗ (∃ f, tgtL d i ↦{fullShare} f) ∗ (∃ f, idxL d i ↦{fullShare} f)
          ∗ (∃ f, rowL d i ↦{fullShare} f) ∗ (∃ f, outL d i ↦{fullShare} f))
        ∗ bigSep (ownRefs (τ := τ) (thr d i).2 \ refSet.image fun r => (thr d i).2.devRef r) fun b => iprop(∃ f, ((d, b) : Loc nD τ sig) ↦{fullShare} f)) := by
  have hs : (refSet.image fun r => (thr d i).2.devRef r) ⊆ ownRefs (τ := τ) (thr d i).2 := by
    intro b hb
    obtain ⟨r, hr, rfl⟩ := Finset.mem_image.mp hb
    unfold refSet at hr
    simp only [Finset.mem_insert, Finset.mem_singleton] at hr
    rcases hr with rfl | rfl | rfl | rfl | rfl | rfl <;> exact SparseCore.Cfg.mem_ownRefs_of_owner rfl
  have hb : bigSep refSet (fun r => (iprop(∃ f, ((d, (thr d i).2.devRef r) : Loc nD τ sig) ↦{fullShare} f) : sProp 𝕄))
      = iprop((∃ f, indL d i ↦{fullShare} f) ∗ (∃ f, mskL d i ↦{fullShare} f) ∗ (∃ f, tgtL d i ↦{fullShare} f) ∗ (∃ f, idxL d i ↦{fullShare} f)
          ∗ (∃ f, rowL d i ↦{fullShare} f) ∗ (∃ f, outL d i ↦{fullShare} f)) := by
    unfold refSet
    rw [SparseCore.bigSep_insert' (by decide), SparseCore.bigSep_insert' (by decide), SparseCore.bigSep_insert' (by decide),
      SparseCore.bigSep_insert' (by decide), SparseCore.bigSep_insert' (by decide), bigSep_singleton]
  unfold SparseCore.Cfg.ownBufs
  refine (SparseCore.bigSep_sdiff_split' hs).trans ?_
  rw [SparseCore.bigSep_image_of_injOn (fun a _ b _ e => Proc.devRef_injective _ e), hb]

/-! ## The task -/

/-- The task on the subcore at grid coordinates `i`, from what it is handed to what it hands back. -/
theorem tile_body (hF : (K (F := F)).Facts) (hpre : PreOK U) (O : CellTallies nD τ sig (HIx 1)) (W : Waits sig (HIx 1)) (hO : ∀ g, O g none = 0) :
    iprop(levAts (K (F := F)).L (K (F := F)).lev ∗ emp ∗ handed U d (wid i) (U d out')
        ∗ scopedBufs (thr d i) ∗ scopedSems0 (thr d i) ∗ owes (thr d i) O W)
      ⊢ wp frame (wpE (defs₀ (F := F)) 𝒱₀ (thr d i) none) Set.univ
          (cc0__sc_body (F := F) i tabV (Memref.isWhole_whole _) indV (Memref.isWhole_whole _) mskV (Memref.isWhole_whole _) tgtV (Memref.isWhole_whole _)
            outV (Memref.isWhole_whole _) sInd (Memref.isWhole_whole _) sMsk (Memref.isWhole_whole _) sTgt (Memref.isWhole_whole _)
            sIdx (Memref.isWhole_whole _) sRow (Memref.isWhole_whole _) sOut (Memref.isWhole_whole _) cc0_scratch6 cc0_scratch7 cc0_scratch8
            cc0_scoped0 cc0_scoped1 cc0_scoped2)
          fun _ => iprop(handed U d (wid i) (partials U d)
            ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d ((i 0).castLE hcore0) ((i 1).castLE hsub0),
    SparseCore.Cfg.scopedSems0_V (Val := Elt F) d ((i 0).castLE hcore0) ((i 1).castLE hsub0), ownSems0_V, ownBufs_V]
  have hi : (((d, ind') : Loc nD τ sig) ↦{shareOf (wid i)} U d ind' : sProp 𝕄)
      = iprop((indH d i ↦[(indAt i).view.set]{shareOf (wid i)} U d ind') ∗ (indH d i ↦[Finset.univ \ (indAt i).view.set]{shareOf (wid i)} U d ind')) :=
    BI.Entails.antisymm (pointsTo_split_subset (ℓ := indH d i) (Finset.subset_univ _)).1 (pointsTo_split_subset (ℓ := indH d i) (Finset.subset_univ _)).2
  have hm : (((d, msk') : Loc nD τ sig) ↦{shareOf (wid i)} U d msk' : sProp 𝕄)
      = iprop((mskH d i ↦[(mskAt i).view.set]{shareOf (wid i)} U d msk') ∗ (mskH d i ↦[Finset.univ \ (mskAt i).view.set]{shareOf (wid i)} U d msk')) :=
    BI.Entails.antisymm (pointsTo_split_subset (ℓ := mskH d i) (Finset.subset_univ _)).1 (pointsTo_split_subset (ℓ := mskH d i) (Finset.subset_univ _)).2
  have ht : (((d, tgt') : Loc nD τ sig) ↦{shareOf (wid i)} U d tgt' : sProp 𝕄)
      = iprop((tgtH d i ↦[(tgtAt i).view.set]{shareOf (wid i)} U d tgt') ∗ (tgtH d i ↦[Finset.univ \ (tgtAt i).view.set]{shareOf (wid i)} U d tgt')) :=
    BI.Entails.antisymm (pointsTo_split_subset (ℓ := tgtH d i) (Finset.subset_univ _)).1 (pointsTo_split_subset (ℓ := tgtH d i) (Finset.subset_univ _)).2
  have ho : (((d, out') : Loc nD τ sig) ↦[rowSet (wid i)]{fullShare} U d out' : sProp 𝕄) = (outH d i ↦[(outAt i).view.set]{fullShare} U d out') := by
    rw [set_outAt]
  have ho' : (outH d i ↦[(outAt i).view.set]{fullShare} (outAt i).view.write (Elt F) (U d out')
        (outRow (F := F) i (U d tab') (U d ind') (U d msk') (U d tgt')) Finset.univ : sProp 𝕄)
      = (((d, out') : Loc nD τ sig) ↦[rowSet (wid i)]{fullShare} partials U d) := by
    rw [set_outAt]
    refine pointsTo_congr fun x hx => ?_
    refine (write_outAt i (U d out') _ x hx).trans ?_
    unfold partials
    have e : (⟨(x 0).val, (x 0).isLt⟩ : Fin 32) = wid i := Fin.ext (mem_rowSet.mp hx)
    rw [e, coordsOf_wid]
  unfold handed
  iintro ⟨#Hlv, -, ⟨Hs, Hi, Hm, Ht, Ho⟩, ⟨Hbufs, Hbr⟩, ⟨Hsems, Hsr⟩, HO⟩
  ihave Hmw := (show levAts (K (F := F)).L (K (F := F)).lev ⊢ Transfers.MayWaits (thr d i) (default : HIx 1) O from
    (K (F := F)).mayWaits_none (thr := thr d i) hO) $$ Hlv
  icases Hmw with #Hmw
  ihave Hi := (Entails.of_eq hi) $$ Hi
  ihave Hm := (Entails.of_eq hm) $$ Hm
  ihave Ht := (Entails.of_eq ht) $$ Ht
  ihave Ho := (Entails.of_eq ho) $$ Ho
  icases Hi with ⟨Hi, Hi'⟩
  icases Hm with ⟨Hm, Hm'⟩
  icases Ht with ⟨Ht, Ht'⟩
  iapply (wp_task d i (shareOf (wid i)) (shareOf (wid i)) (shareOf (wid i)) (shareOf (wid i)) (U d tab') (U d ind') (U d msk') (U d tgt')
    (idxW_lt i (U d ind') (hpre d)) (U d out')) $$ [Hs Hi Hm Ht Ho Hbufs Hsems HO]
  · isplitr; · imodintro; iexact Hmw
    isplitl [Hs Hi Hm Ht Ho]
    · isplitl [Hs]; · iexact Hs
      isplitl [Hi]; · iexact Hi
      isplitl [Hm]; · iexact Hm
      isplitl [Ht]; · iexact Ht
      iexact Ho
    isplitl [Hbufs]; · iexact Hbufs
    isplitl [Hsems]; · iexact Hsems
    iexact HO
  iintro ⟨Hs, Hi, Hm, Ht, Ho⟩ Hbufs Hsems HO
  isplitl [Hs Hi Hi' Hm Hm' Ht Ht' Ho]
  · isplitl [Hs]; · iexact Hs
    isplitl [Hi Hi']
    · iapply (Entails.of_eq hi.symm)
      isplitl [Hi]; · iexact Hi
      iexact Hi'
    isplitl [Hm Hm']
    · iapply (Entails.of_eq hm.symm)
      isplitl [Hm]; · iexact Hm
      iexact Hm'
    isplitl [Ht Ht']
    · iapply (Entails.of_eq ht.symm)
      isplitl [Ht]; · iexact Ht
      iexact Ht'
    iapply (Entails.of_eq ho'); iexact Ho
  isplitl [Hbufs Hbr]
  · isplitl [Hbufs]; · iexact Hbufs
    iexact Hbr
  isplitl [Hsems Hsr]
  · isplitl [Hsems]; · iexact Hsems
    iexact Hsr
  iexact HO

/-! ## The obligation -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Grid coordinates from a SparseCore's and a subcore's. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s =>
          cc0__sc_body (F := F) (coordsV c s) tabV (Memref.isWhole_whole _) indV (Memref.isWhole_whole _) mskV (Memref.isWhole_whole _) tgtV (Memref.isWhole_whole _)
            outV (Memref.isWhole_whole _) sInd (Memref.isWhole_whole _) sMsk (Memref.isWhole_whole _) sTgt (Memref.isWhole_whole _)
            sIdx (Memref.isWhole_whole _) sRow (Memref.isWhole_whole _) sOut (Memref.isWhole_whole _) cc0_scratch6 cc0_scratch7 cc0_scratch8
            cc0_scoped0 cc0_scoped1 cc0_scoped2) ⟨⟩ c s := rfl

set_option maxRecDepth 16384 in
theorem tileObl (hF : (K (F := F)).Facts) (hpre : PreOK U) : (K (F := F)).TileObl (D (F := F)) 𝒱 (P U) v₀ 0 := by
  intro d c s O W hO _ _
  simp only [show (P U).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body U d (coordsV ⟨_, hci.1⟩ ⟨_, hci.2⟩) hF hpre O W hO).trans (wp_mono frame _ _ fun _ => obl_post)

end Tile

/-! ## A SparseCore's work is its subcores' -/

theorem vecSplit : (K (F := F)).VecSplit' (P U) 0 := by
  intro d c
  show iprop(bigSep Finset.univ fun s : Fin ((K (F := F)).nSub 0) => handed U d (numOf (Fin.cast nCore_zero c) (Fin.cast nSub_zero s)) (U d out'))
    ⊢ |={Set.univ}=> iprop((bigSep Finset.univ fun s : Fin ((K (F := F)).nSub 0) => handed U d (numOf (Fin.cast nCore_zero c) (Fin.cast nSub_zero s)) (U d out'))
      ∗ ((bigSep Finset.univ fun s : Fin ((K (F := F)).nSub 0) => handed U d (numOf (Fin.cast nCore_zero c) (Fin.cast nSub_zero s)) (partials U d))
        -∗ bigSep Finset.univ fun s : Fin ((K (F := F)).nSub 0) => handed U d (numOf (Fin.cast nCore_zero c) (Fin.cast nSub_zero s)) (partials U d)))
  iintro H; imodintro
  isplitl [H]; · iexact H
  iintro H; iexact H

end Cert.Proof.Sc
-- ==== Proof.Launch.lean ====
/-
  The whole program: the host's operations before the call, the call on the thirty-two subcores, the host's operations after it.
-/
module

public import Idealize.ShloMosaic.Lib.StableHlo.Run
public import Idealize.ShloMosaic.Lib.SparseCore.Quiescent
public import Idealize.ShloMosaic.Lib.Pipeline.Frame
public import Idealize.ShloMosaic.Lib.Tactic
public import proofs.«01_k».proof.Proof.Tile

@[expose] public section

noncomputable section

namespace Cert.Proof.Sc

open Cert.KernelIdeal Cert.KernelIdeal.Gen
open Idealize.ShloMosaic Idealize.SL.Sem
open Idealize.ShloMosaic.SparseCore (S V T)
open Idealize.ShloMosaic.SparseCore.Cfg (HIx Pay)
open Idealize.ShloMosaic.StableHlo (held held_sub_split held_congr after seq)
open Idealize.SL Idealize.SL.RA
open Idealize.SL.BI (sProp bigSep bigSepL bigSep_singleton bigSep_univ_of_subsingleton bigSep_univ_equiv bigSep_congr bigSep_emp_const bigSep_sep')
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## All that is handed out is the five arrays whole -/

section Deal

variable [FloatOps F] (U : Dev nD → Valuation τ sig (Elt F))

/-- SparseCores and their subcores, numbered from 0 to 31. -/
def numEquiv : Fin 2 × Fin 16 ≃ Fin 32 where
  toFun p := numOf p.1 p.2
  invFun w := (⟨w.val % 2, Nat.mod_lt _ (by decide)⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

/-- The five arrays whole, the partial results at `f`. -/
def whole (d : Dev nD) (f : S32x32.Idx → Elt F .f32) : sProp 𝕄 :=
  iprop((((d, tab') : Loc nD τ sig) ↦{fullShare} U d tab') ∗ (((d, ind') : Loc nD τ sig) ↦{fullShare} U d ind')
    ∗ (((d, msk') : Loc nD τ sig) ↦{fullShare} U d msk') ∗ (((d, tgt') : Loc nD τ sig) ↦{fullShare} U d tgt')
    ∗ (((d, out') : Loc nD τ sig) ↦{fullShare} f))

theorem deal (d : Dev nD) (f : S32x32.Idx → Elt F .f32) :
    (bigSep Finset.univ fun c : Fin ((K (F := F)).nCore 0) => bigSep Finset.univ fun s : Fin ((K (F := F)).nSub 0) =>
      handed U d (numOf (Fin.cast nCore_zero c) (Fin.cast nSub_zero s)) f : sProp 𝕄) = whole U d f := by
  have h1 : (bigSep Finset.univ fun c : Fin ((K (F := F)).nCore 0) => bigSep Finset.univ fun s : Fin ((K (F := F)).nSub 0) =>
      handed U d (numOf (Fin.cast nCore_zero c) (Fin.cast nSub_zero s)) f : sProp 𝕄)
      = bigSep Finset.univ fun w : Fin 32 => handed U d w f := by
    rw [bigSep_univ_equiv numEquiv, ← Finset.univ_product_univ, SparseCore.bigSep_product]
    rfl
  rw [h1]
  unfold handed whole
  rw [bigSep_sep', bigSep_sep', bigSep_sep', bigSep_sep']
  have ho : (((d, out') : Loc nD τ sig) ↦{fullShare} f : sProp 𝕄)
      = bigSep Finset.univ fun w : Fin 32 => ((d, out') : Loc nD τ sig) ↦[rowSet w]{fullShare} f := by
    rw [← pointsTo_biUnion Finset.univ (ℓ := ((d, out') : Loc nD τ sig)) rowSet rowSet_disjoint, rowSet_cover]; try rfl
  rw [ho, pointsTo_piecesOf (ℓ := ((d, tab') : Loc nD τ sig)) Finset.univ (U d tab') (o := 32) (by decide) fullShare,
    pointsTo_piecesOf (ℓ := ((d, ind') : Loc nD τ sig)) Finset.univ (U d ind') (o := 32) (by decide) fullShare,
    pointsTo_piecesOf (ℓ := ((d, msk') : Loc nD τ sig)) Finset.univ (U d msk') (o := 32) (by decide) fullShare,
    pointsTo_piecesOf (ℓ := ((d, tgt') : Loc nD τ sig)) Finset.univ (U d tgt') (o := 32) (by decide) fullShare]
  rfl

theorem st0_eq (d : Dev nD) : (bigSep Finset.univ fun c : Fin ((K (F := F)).nCore 0) => (P U).st 0 d c) = whole U d (U d out') := deal U d (U d out')
theorem dn0_eq (d : Dev nD) : (bigSep Finset.univ fun c : Fin ((K (F := F)).nCore 0) => (P U).dn 0 d c) = whole U d (partials U d) := deal U d (partials U d)

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P U).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) U).x q thr) = bigSep Finset.univ fun _ => iprop(emp) from
    bigSep_congr fun _ _ => bigSep_univ_of_subsingleton (0 : Fin 1), bigSep_nothing]
  iempintro

end Deal

/-! ## The host's operations -/

section Host

variable [FloatOps F]

/-- The operations before the call: the four arrays laid out flat. -/
def opsBefore : List (HloOp τ sig (Elt F)) :=
  [StableHlo.reshape main_arg0 main_v0 (rfl : (.f32 : EltTy) = .f32) shapeCasts_S8x256x128x128_S33554432,
   StableHlo.reshape main_arg2 main_v1 (rfl : (.i32 : EltTy) = .i32) shapeCasts_S8x128_S1024,
   StableHlo.reshape main_arg1 main_v2 (rfl : (.i32 : EltTy) = .i32) shapeCasts_S8x128_S1024,
   StableHlo.reshape main_arg3 main_v3 (rfl : (.f32 : EltTy) = .f32) shapeCasts_S8x128x256_S262144]

/-- The operations after the call: the two halves of the partial results summed, one divided by the other. -/
def opsAfter : List (HloOp τ sig (Elt F)) :=
  [StableHlo.unary main_v4 main_v5 ((extractStridedSlice S32x16 ![0, 0] · slices_S32x32_S32x16_0_0) : (⟨S32x32, .f32⟩ : BufTy).Contents (Elt F) → (⟨S32x16, .f32⟩ : BufTy).Contents (Elt F)),
   StableHlo.nullary main_cst (constant S_ .f32 0x00000000#32),
   StableHlo.binary main_v5 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v4 main_v7 ((extractStridedSlice S32x16 ![0, 16] · slices_S32x32_S32x16_0_16) : (⟨S32x32, .f32⟩ : BufTy).Contents (Elt F) → (⟨S32x16, .f32⟩ : BufTy).Contents (Elt F)),
   StableHlo.nullary main_cst_0 (constant S_ .f32 0x00000000#32),
   StableHlo.binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_1 (constant S_ .f32 0x43800000#32),
   StableHlo.binary main_v8 main_cst_1 main_v9 (mulf : (⟨S_, .f32⟩ : BufTy).Contents (Elt F) → (⟨S_, .f32⟩ : BufTy).Contents (Elt F) → (⟨S_, .f32⟩ : BufTy).Contents (Elt F)),
   StableHlo.nullary main_cst_2 (constant S_ .f32 0x38D1B717#32),
   StableHlo.binary main_v9 main_cst_2 main_v10 (addf : (⟨S_, .f32⟩ : BufTy).Contents (Elt F) → (⟨S_, .f32⟩ : BufTy).Contents (Elt F) → (⟨S_, .f32⟩ : BufTy).Contents (Elt F)),
   StableHlo.binary main_v6 main_v10 main_v11 (Host.divf : (⟨S_, .f32⟩ : BufTy).Contents (Elt F) → (⟨S_, .f32⟩ : BufTy).Contents (Elt F) → (⟨S_, .f32⟩ : BufTy).Contents (Elt F))]

theorem main_eq (d : Dev nD) :
    main (F := F) d = (seq opsBefore >>= fun _ => ((sc (F := F)).run d 0 >>= fun _ => (seq opsAfter >>= fun _ => pure ⟨⟩))) := by
  rw [StableHlo.seq_bind_seqK opsBefore, StableHlo.seq_bind_seqK opsAfter]
  rfl

theorem before_sub : ∀ op ∈ opsBefore (F := F), op.bufs ⊆ Pipeline.ucRefs τ sig := by
  refine fun op h => Pipeline.sub_ucRefs op ((List.forall_iff_forall_mem (p := fun op => op.bufs ⊆ StableHlo.tcRefs τ sig).mp ?_) op h)
  simp only [opsBefore, List.Forall, StableHlo.reshape_bufs_sub, and_self]
theorem before_fresh : ∀ op ∈ opsBefore (F := F), op.fresh = ∅ := by
  refine List.forall_iff_forall_mem.mp ?_
  simp only [opsBefore, List.Forall]; exact ⟨rfl, rfl, rfl, rfl⟩
theorem after_sub : ∀ op ∈ opsAfter (F := F), op.bufs ⊆ Pipeline.ucRefs τ sig := by
  refine fun op h => Pipeline.sub_ucRefs op ((List.forall_iff_forall_mem (p := fun op => op.bufs ⊆ StableHlo.tcRefs τ sig).mp ?_) op h)
  simp only [opsAfter, List.Forall, StableHlo.unary_bufs_sub, StableHlo.nullary_bufs_sub, StableHlo.binary_bufs_sub, and_self]
theorem after_fresh : ∀ op ∈ opsAfter (F := F), op.fresh = ∅ := by
  refine List.forall_iff_forall_mem.mp ?_
  simp only [opsAfter, List.Forall]; exact ⟨rfl, rfl, rfl, rfl, rfl, rfl, rfl, rfl, rfl, rfl, rfl⟩

variable (m : (ℓ : Loc nD τ sig) → Buf (Elt F) ℓ) (ρ : Dev nD → PrngReg)

/-- What a device's buffers hold at the launch, before the call, after it, and at the end. -/
def V0 (d : Dev nD) : Valuation τ sig (Elt F) := fun b => m (d, b)
def V1 (d : Dev nD) : Valuation τ sig (Elt F) := after opsBefore (V0 m d)
def V2 (d : Dev nD) : Valuation τ sig (Elt F) := Function.update (V1 m d) out' (partials (V1 m) d)
def V3 (d : Dev nD) : Valuation τ sig (Elt F) := after opsAfter (V2 m d)

/-- The arguments and the result, among a device's buffers. -/
abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev res' : DevRef τ sig := Proc.devRef .tc (main_v11 : Ref sig .tc)

/-- The call's arrays; the arguments and the result. -/
abbrev callRefs : Finset (DevRef τ sig) := {tab', ind', msk', tgt', out'}
abbrev endRefs : Finset (DevRef τ sig) := {arg0', arg1', arg2', arg3', res'}

theorem callRefs_sub : callRefs ⊆ Pipeline.ucRefs τ sig := by
  intro b hb
  simp only [callRefs, Finset.mem_insert, Finset.mem_singleton] at hb
  refine Finset.mem_filter.mpr ⟨?_, ?_⟩
  · rcases hb with rfl | rfl | rfl | rfl | rfl <;> exact Finset.mem_map_of_mem _ (Finset.mem_univ _)
  · rcases hb with rfl | rfl | rfl | rfl | rfl <;> decide
theorem endRefs_sub : endRefs ⊆ Pipeline.ucRefs τ sig := by
  intro b hb
  simp only [endRefs, Finset.mem_insert, Finset.mem_singleton] at hb
  refine Finset.mem_filter.mpr ⟨?_, ?_⟩
  · rcases hb with rfl | rfl | rfl | rfl | rfl <;> exact Finset.mem_map_of_mem _ (Finset.mem_univ _)
  · rcases hb with rfl | rfl | rfl | rfl | rfl <;> decide

theorem held_call (d : Dev nD) (W : Valuation τ sig (Elt F)) (h : ∀ b ∈ callRefs, b ≠ out' → W b = V1 m d b) :
    (held (T d) callRefs W : sProp 𝕄) = whole (V1 m) d (W out') := by
  unfold held callRefs whole
  rw [SparseCore.bigSep_insert' (by decide), SparseCore.bigSep_insert' (by decide), SparseCore.bigSep_insert' (by decide),
    SparseCore.bigSep_insert' (by decide), bigSep_singleton, h tab' (by decide) (by decide), h ind' (by decide) (by decide),
    h msk' (by decide) (by decide), h tgt' (by decide) (by decide)]

theorem held_V1 (d : Dev nD) : (held (d.tc : Thread nD τ) (Pipeline.ucRefs τ sig) (after opsBefore (V0 m d)) : sProp 𝕄)
    = iprop(whole (V1 m) d (V1 m d out') ∗ held (T d) (Pipeline.ucRefs τ sig \ callRefs) (V1 m d)) := by
  show held (T d) _ (V1 m d) = _
  rw [held_sub_split (T d) callRefs_sub, held_call m d (V1 m d) fun _ _ _ => rfl]

theorem held_V2 (d : Dev nD) : (held (d.tc : Thread nD τ) (Pipeline.ucRefs τ sig) (V2 m d) : sProp 𝕄)
    = iprop(whole (V1 m) d (partials (V1 m) d) ∗ held (T d) (Pipeline.ucRefs τ sig \ callRefs) (V1 m d)) := by
  show held (T d) _ (V2 m d) = _
  rw [held_sub_split (T d) callRefs_sub, held_call m d (V2 m d) fun b _ hb => Function.update_of_ne hb _ _,
    show V2 m d out' = partials (V1 m) d from Function.update_self _ _ _,
    held_congr (T d) (V := V2 m d) (V' := V1 m d) fun b hb => Function.update_of_ne (fun e => (Finset.mem_sdiff.mp hb).2 (e ▸ by decide)) _ _]

/-! ## The arguments are kept -/

/-- A buffer that is neither an operation's result nor the call's ends as it began. -/
theorem V3_kept (d : Dev nD) (r : Ref sig .tc)
    (h : r ∉ [main_v0, main_v1, main_v2, main_v3, main_v4, main_v5, main_cst, main_v6, main_v7, main_cst_0, main_v8, main_cst_1, main_v9,
      main_cst_2, main_v10, main_v11]) : V3 m d (Proc.devRef .tc r) = m (d, Proc.devRef .tc r) := by
  simp only [List.mem_cons, List.not_mem_nil, or_false, not_or] at h
  obtain ⟨h0, h1, h2, h3, h4, h5, h6, h7, h8, h9, h10, h11, h12, h13, h14, h15⟩ := h
  refine (StableHlo.after_of_writes_sub (W := [main_v5, main_cst, main_v6, main_v7, main_cst_0, main_v8, main_cst_1, main_v9,
    main_cst_2, main_v10, main_v11]) opsAfter (V2 m d) (StableHlo.forall_writes_sub_of_map rfl) ?_).trans ?_
  · simp only [List.mem_cons, List.not_mem_nil, or_false, not_or]
    exact ⟨h5, h6, h7, h8, h9, h10, h11, h12, h13, h14, h15⟩
  refine (Function.update_of_ne (fun e => h4 (Proc.devRef_injective _ e)) _ _).trans ?_
  refine (StableHlo.after_of_writes_sub (W := [main_v0, main_v1, main_v2, main_v3]) opsBefore (V0 m d) (StableHlo.forall_writes_sub_of_map rfl) ?_).trans rfl
  simp only [List.mem_cons, List.not_mem_nil, or_false, not_or]
  exact ⟨h0, h1, h2, h3⟩

/-! ## What the call finds -/

theorem V1_tab (d : Dev nD) : V1 m d tab' = shapeCast S33554432 (m (d, arg0')) shapeCasts_S8x256x128x128_S33554432 := by
  unfold V1 opsBefore; after_results; rfl
theorem V1_ind (d : Dev nD) : V1 m d ind' = shapeCast S1024 (m (d, arg2')) shapeCasts_S8x128_S1024 := by
  unfold V1 opsBefore; after_results; rfl
theorem V1_msk (d : Dev nD) : V1 m d msk' = shapeCast S1024 (m (d, arg1')) shapeCasts_S8x128_S1024 := by
  unfold V1 opsBefore; after_results; rfl
theorem V1_tgt (d : Dev nD) : V1 m d tgt' = shapeCast S262144 (m (d, arg3')) shapeCasts_S8x128x256_S262144 := by
  unfold V1 opsBefore; after_results; rfl

/-- The result from the partial results: the sum of their first halves over 256 times the sum of their second halves plus a ten-thousandth. -/
def resultOf (p : S32x32.Idx → Elt F .f32) : S_.Idx → Elt F .f32 :=
  Host.divf (Host.reduceAdd (extractStridedSlice S32x16 ![0, 0] p slices_S32x32_S32x16_0_0) (constant S_ .f32 0x00000000#32) reducesTo_S32x16_S_d0_1 h_S_)
    (addf (mulf (Host.reduceAdd (extractStridedSlice S32x16 ![0, 16] p slices_S32x32_S32x16_0_16) (constant S_ .f32 0x00000000#32) reducesTo_S32x16_S_d0_1 h_S_)
      (constant S_ .f32 0x43800000#32)) (constant S_ .f32 0x38D1B717#32))

theorem V3_res (d : Dev nD) : V3 m d res' = resultOf (partials (V1 m) d) := by
  have h : V2 m d out' = partials (V1 m) d := Function.update_self _ _ _
  unfold V3 opsAfter; after_results; rw [h]; rfl

/-- What @main leaves the claims: the arguments and the result. -/
def FIN (d : Dev nD) : sProp 𝕄 :=
  iprop((((d, arg0') : Loc nD τ sig) ↦{fullShare} V3 m d arg0') ∗ (((d, arg1') : Loc nD τ sig) ↦{fullShare} V3 m d arg1')
    ∗ (((d, arg2') : Loc nD τ sig) ↦{fullShare} V3 m d arg2') ∗ (((d, arg3') : Loc nD τ sig) ↦{fullShare} V3 m d arg3')
    ∗ (((d, res') : Loc nD τ sig) ↦{fullShare} V3 m d res'))

theorem held_V3 (d : Dev nD) : (held (d.tc : Thread nD τ) (Pipeline.ucRefs τ sig) (after opsAfter (V2 m d)) : sProp 𝕄)
    = iprop(FIN m d ∗ held (T d) (Pipeline.ucRefs τ sig \ endRefs) (V3 m d)) := by
  show held (T d) _ (V3 m d) = _
  rw [held_sub_split (T d) endRefs_sub]
  congr 1
  unfold held endRefs FIN
  rw [SparseCore.bigSep_insert' (by decide), SparseCore.bigSep_insert' (by decide), SparseCore.bigSep_insert' (by decide),
    SparseCore.bigSep_insert' (by decide), bigSep_singleton]

/-! ## @main on the TensorCore -/

theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (Pipeline.ucRefs τ sig) (V0 m d) from
    Pipeline.unscopedBufs_held (Ix := HIx 1) (Name := ℕ) (U := UU) (Lvl := ℕ) d (V0 m d)]
  iintro ⟨#Hctx, Hst, ⟨Hb, Hheld, Hts, -⟩, -⟩
  iapply (StableHlo.wp_seq 𝒱 none Set.univ d (Pipeline.ucRefs τ sig) _ opsBefore before_sub before_fresh (V0 m d)) $$ [Hb Hheld]
  · isplitl [Hb] <;> iassumption
  iintro ⟨Hb, Hheld⟩
  ihave Hh := (Entails.of_eq (held_V1 m d)) $$ Hheld
  icases Hh with ⟨Hw, Hr⟩
  iapply (Entails.of_eq (wp_bind (α := PUnit) ..).symm)
  iapply ((K (F := F)).wp_run (D (F := F)) 𝒱 (EH := EH) (P := P (V1 m)) κ d 0) $$ [Hst Hw Hb Hr Hts]
  isplitr; · iexact Hctx
  isplitl [Hst]; · iexact Hst
  isplitl [Hw]; · rw [st0_eq]; iexact Hw
  iintro ⟨Hst, Hdn⟩
  ihave Hw := (Entails.of_eq (dn0_eq (V1 m) d)) $$ Hdn
  iapply (StableHlo.wp_seq 𝒱 none Set.univ d (Pipeline.ucRefs τ sig) _ opsAfter after_sub after_fresh (V2 m d)) $$ [Hb Hw Hr]
  · isplitl [Hb]; · iexact Hb
    iapply (Entails.of_eq (held_V2 m d).symm)
    isplitl [Hw] <;> iassumption
  iintro ⟨Hb, Hheld⟩
  ihave Hh := (Entails.of_eq (held_V3 m d)) $$ Hheld
  icases Hh with ⟨Hf, -⟩
  iapply (Entails.of_eq (wp_pure (α := PUnit) ..).symm); imodintro
  isplitl [Hst]; · iexact Hst
  isplitl [Hf]; · iexact Hf
  isplitl [Hb] <;> iassumption

/-- What the claims read of a device's final state. -/
def fq (d : Dev nD) (s' : Phys nD τ sig (Elt F)) : Prop := ∀ b ∈ endRefs, s'.mem.mem (d, b) = V3 m d b

theorem agree (d : Dev nD) (s' : Phys nD τ sig (Elt F)) (b : DevRef τ sig) (f : Buf (Elt F) ((d, b) : Loc nD τ sig)) :
    iprop((((d, b) : Loc nD τ sig) ↦{fullShare} f) ∗ SI s') ⊢ iprop(⌜s'.mem.mem (d, b) = f⌝ ∗ (SI s' : sProp 𝕄)) := by
  iintro ⟨H, HSI⟩
  ihave H := (persistent_entails_right (SI_pointsTo_agree (st := s') (ℓ := ((d, b) : Loc nD τ sig)) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4⟩, HSI⟩
  ihave H := (agree d s' arg0' _) $$ [H0 HSI]
  · isplitl [H0] <;> iassumption
  icases H with ⟨%h0, HSI⟩
  ihave H := (agree d s' arg1' _) $$ [H1 HSI]
  · isplitl [H1] <;> iassumption
  icases H with ⟨%h1, HSI⟩
  ihave H := (agree d s' arg2' _) $$ [H2 HSI]
  · isplitl [H2] <;> iassumption
  icases H with ⟨%h2, HSI⟩
  ihave H := (agree d s' arg3' _) $$ [H3 HSI]
  · isplitl [H3] <;> iassumption
  icases H with ⟨%h3, HSI⟩
  ihave H := (agree d s' res' _) $$ [H4 HSI]
  · isplitl [H4] <;> iassumption
  icases H with ⟨%h4, -⟩
  ipureintro
  intro b hb
  simp only [endRefs, Finset.mem_insert, Finset.mem_singleton] at hb
  rcases hb with rfl | rfl | rfl | rfl | rfl
  · exact h0
  · exact h1
  · exact h2
  · exact h3
  · exact h4

/-! ## The run -/

/-- Where the program ends: the arguments and the result as the host's operations leave them, every semaphore at zero. -/
def QC : PUnit × MemSt nD τ sig (Elt F) → Prop := fun r => (∀ c : Dev nD, ∀ b ∈ endRefs, r.2.mem (c, b) = V3 m c b) ∧ r.2.sem = fun _ => 0

theorem run_main [∀ e, Nonempty (Elt F e)] (hpre : PreOK (V1 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) facts hpre)
    (fun q _ => match q with | 0 => SparseCore.Cfg.VecSplit.of_plain (vecSplit (V1 m)))
    m ρ main (fun _ => iprop(emp)) (FIN m) (u₀ (F := F)) (sep_elim_left.trans (hu₀ (V1 m))) (hmain m ρ) (fq m) (hfin m) (QC m) (fun _ h hz => ⟨h, hz⟩)

end Host

end Cert.Proof.Sc
-- ==== Proof.Frames.lean ====
/-
  The kernel's two frames: the program runs, keeps its arguments and leaves every semaphore at zero.
-/
module

public import Idealize.ShloMosaic.Lib.ReduceAll
public import Idealize.ShloMosaic.Lib.WordCmp
public import proofs.«01_k».proof.Defs
public import proofs.«01_k».proof.Proof.Gen.Kernel
public import proofs.«01_k».proof.Proof.Gen.Pre_in_range
public import proofs.«01_k».proof.Proof.Launch

@[expose] public section

noncomputable section

namespace Cert.Proof.Sc

open Cert.KernelIdeal Cert.KernelIdeal.Gen
open Idealize.ShloMosaic Idealize.SL.Sem

variable {F : FTy → Type} [FloatOps F]

/-- The precondition, as the host computes it, says of each row number that it is below 16384. -/
theorem lt_of_in_range [Cert.Pre_in_range.Facts] (a0 : FVec F S8x256x128x128 .f32) (a1 a2 : IVec S8x128 32) (a3 : FVec F S8x128x256 .f32)
    (h : Cert.Pre_in_range.fn (F := F) a0 a1 a2 a3 = fun _ => 1#1) (j : S8x128.Idx) : (a2 j).toNat < 16384 := by
  have e := congrFun h (fun k => k.elim0)
  dsimp only [Cert.Pre_in_range.fn] at e
  haveI : Subsingleton Cert.Pre_in_range.S_.Idx := ⟨fun a b => funext fun k => k.elim0⟩
  have e' := Host.reduce_andi_all _ _ _ _ _ e j
  have e2 : IntOp.andi (IntOp.cmpi .sge (a2 j) 0#32) (IntOp.cmpi .slt (a2 j) (BitVec.ofNat 32 16384)) = 1#1 := e'
  rw [WordCmp.andi_sge_zero_slt_ofNat (by decide)] at e2
  by_contra hn
  rw [decide_eq_false hn] at e2
  exact absurd e2 (by decide)

variable (m : (ℓ : Loc nD τ sig) → Buf (Elt F) ℓ)

/-- Under the precondition each row number the call finds is below the length of a channel. -/
theorem preOK [Cert.Pre_in_range.Facts]
    (h : ∀ c : Dev nD, Cert.Pre_in_range.fn (F := F) (m (c, arg0')) (m (c, arg1')) (m (c, arg2')) (m (c, arg3')) = fun _ => 1#1) : PreOK (V1 m) := by
  intro d j
  rw [V1_ind]
  exact lt_of_in_range _ _ _ _ (h d) _

/-- The run in the claims' words: the result, the arguments and the semaphores. -/
theorem run_claim [∀ e, Nonempty (Elt F e)] [Cert.Pre_in_range.Facts] (ρ : Dev nD → PrngReg)
    (h : ∀ c : Dev nD, Cert.Pre_in_range.fn (F := F) (m (c, arg0')) (m (c, arg1')) (m (c, arg2')) (m (c, arg3')) = fun _ => 1#1) :
    θ_run (Cert.KernelIdeal.defs (F := F)) (Cert.KernelIdeal.threads (F := F)) ⟨m, fun _ => 0, ρ⟩ fun r =>
      (∀ c : Dev nD, r.2.mem (c, res') = resultOf (partials (V1 m) c)
        ∧ r.2.mem (c, arg0') = m (c, arg0') ∧ r.2.mem (c, arg1') = m (c, arg1') ∧ r.2.mem (c, arg2') = m (c, arg2') ∧ r.2.mem (c, arg3') = m (c, arg3'))
      ∧ r.2.sem = fun _ => 0 :=
  (θ_run _ _ _).mono (fun _ hr => ⟨fun c =>
    ⟨(hr.1 c res' (by decide)).trans (V3_res m c), (hr.1 c arg0' (by decide)).trans (V3_kept m c main_arg0 (by decide)),
      (hr.1 c arg1' (by decide)).trans (V3_kept m c main_arg1 (by decide)), (hr.1 c arg2' (by decide)).trans (V3_kept m c main_arg2 (by decide)),
      (hr.1 c arg3' (by decide)).trans (V3_kept m c main_arg3 (by decide))⟩, hr.2⟩) (run_main m ρ (preOK m h))

/-- The idealized kernel's frame. -/
theorem frame_kernelIdeal : Cert.quiescent_KernelIdeal := fun m ρ h =>
  (θ_run Cert.KernelIdeal.defs _ _).mono (fun _ hr => ⟨fun c => (hr.1 c).2, hr.2⟩) (run_claim (F := Ideal) m ρ h)

/-- The kernel's frame: its text is the idealized kernel's, at the machine's floats. -/
theorem frame_kernel : Cert.quiescent_Kernel := fun m ρ h =>
  (θ_run Cert.KernelIdeal.defs _ _).mono (fun _ hr => ⟨fun c => (hr.1 c).2, hr.2⟩) (run_claim (F := Bits) m ρ h)

end Cert.Proof.Sc
-- ==== Proof.Loss.lean ====
/-
  The masked mean of the losses over the extended reals, in numbers: what both programs are shown to compute.
-/
module

public import Idealize.ShloMosaic.Lib.Pointwise
public import Idealize.ShloMosaic.Lib.IdealHost

@[expose] public section

noncomputable section

namespace Cert.Proof.Loss

open Idealize.ShloMosaic

/-- The polynomial in `e` that stands for `log (1 + e)`. -/
def poly (e : EReal) : EReal :=
  (((((Ideal.ofBits .f32 0xBC8CF7EB#32 * e + Ideal.ofBits .f32 0x3DA76063#32) * e + Ideal.ofBits .f32 0xBE41503F#32) * e
    + Ideal.ofBits .f32 0x3EA11203#32) * e + Ideal.ofBits .f32 0xBEFE73E4#32) * e + Ideal.ofBits .f32 0x3F7FF266#32) * e
    + Ideal.ofBits .f32 0x366B6349#32

/-- The loss of a prediction `x` against a target `t`. -/
def bce (x t : EReal) : EReal := (max x 0 - x * t) + poly (Ideal.exp (-(max x (-x))))

variable (a0 : (⟨4, ![8, 256, 128, 128]⟩ : Shape).Idx → EReal) (a1 a2 : (⟨2, ![8, 128]⟩ : Shape).Idx → BitVec 32)
  (a3 : (⟨3, ![8, 128, 256]⟩ : Shape).Idx → EReal)

/-- The index, among eight batches of a hundred and twenty-eight, of pair `n`. -/
def qIx (n : ℕ) : (⟨2, ![8, 128]⟩ : Shape).Idx := ix2 ⟨n / 128 % 8, Nat.mod_lt _ (by decide)⟩ ⟨n % 128, Nat.mod_lt _ (by decide)⟩

/-- The prediction of pair `n` in channel `c`: the channel at the pair's row. -/
def pred (n c : ℕ) : EReal :=
  a0 (ix4 ⟨n / 128 % 8, Nat.mod_lt _ (by decide)⟩ ⟨c % 256, Nat.mod_lt _ (by decide)⟩
    ⟨(a2 (qIx n)).toNat / 128 % 128, Nat.mod_lt _ (by decide)⟩ ⟨(a2 (qIx n)).toNat % 128, Nat.mod_lt _ (by decide)⟩)

/-- The target of pair `n` in channel `c`. -/
def target (n c : ℕ) : EReal :=
  a3 (ix3 ⟨n / 128 % 8, Nat.mod_lt _ (by decide)⟩ ⟨n % 128, Nat.mod_lt _ (by decide)⟩ ⟨c % 256, Nat.mod_lt _ (by decide)⟩)

/-- The loss of pair `n` in channel `c`: nothing if the pair is masked. -/
def lossAt (n c : ℕ) : EReal := if a1 (qIx n) = 0#32 then 0 else bce (pred a0 a2 n c) (target a3 n c)

/-- One for an unmasked pair, else zero. -/
def liveAt (n : ℕ) : ℕ := if a1 (qIx n) = 0#32 then 0 else 1

/-- The sum of the losses over the number of elements unmasked, plus a ten-thousandth. -/
def meanLoss : EReal :=
  Ideal.div (∑ n ∈ Finset.range 1024, ∑ c ∈ Finset.range 256, lossAt a0 a1 a2 a3 n c)
    ((((∑ n ∈ Finset.range 1024, liveAt a1 n) * 256 : ℕ) : ℝ) + Ideal.ofBits .f32 0x38D1B717#32)

/-- A sum tile by tile is the sum over all. -/
theorem sum_tiles {M : Type*} [AddCommMonoid M] (J T : ℕ) (f : ℕ → M) :
    ∑ j : Fin J, ∑ t : Fin T, f (j.val * T + t.val) = ∑ n ∈ Finset.range (J * T), f n := by
  rw [Finset.sum_range, Fin.sum_univ_tiles J T rfl]

/-- A sum of natural numbers, among the extended reals. -/
theorem sum_coe {ι : Type*} (s : Finset ι) (f : ι → ℕ) : ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- A product of natural numbers, among the extended reals. -/
theorem mul_coe (m n : ℕ) : (((m : ℕ) : ℝ) : EReal) * (((n : ℕ) : ℝ) : EReal) = (((m * n : ℕ) : ℝ) : EReal) := by
  rw [← EReal.coe_mul, Nat.cast_mul]

/-- The constant by which the kernel multiplies its count. -/
theorem ofBits_256 : Ideal.ofBits .f32 0x43800000#32 = (((256 : ℕ) : ℝ) : EReal) := by
  simp [Ideal.ofBits, Ideal.ieee]
  rw [← EReal.coe_mul]
  norm_num

end Cert.Proof.Loss

end
-- ==== Proof.KernelLoss.lean ====
/-
  The kernel's result over the extended reals: the masked mean of the losses.
-/
module

public import proofs.«01_k».proof.Proof.Loss
public import proofs.«01_k».proof.Proof.Launch

@[expose] public section

noncomputable section

namespace Cert.Proof.Sc

open Cert.KernelIdeal Cert.KernelIdeal.Gen
open Idealize.ShloMosaic Idealize.SL.Sem
open Cert.Proof.Loss

/-! ## One pair's loss -/

theorem zero16_apply (y : S16.Idx) : (zero16 (F := Ideal)) y = 0 := Ideal.ofBits_zero_f32

/-- A trip adds, at each lane, the loss there. -/
theorem bceStep_apply (acc : FVec Ideal S16 .f32) (x t : Vec Ideal S16 .f32) (y : S16.Idx) :
    bceStep acc x t y = (acc y + bce (x y) (t y) : EReal) := by
  unfold bceStep
  rw [shapeCast_id, shapeCast_id]
  show (acc y + ((max (x y) (Ideal.ofBits .f32 0x00000000#32) - x y * t y) + poly (Ideal.exp (Ideal.ofBits .f32 0x00000000#32 - max (x y) (-(x y))))) : EReal) = _
  rw [Ideal.ofBits_zero_f32, zero_sub]
  rfl

/-- A pair's accumulator: the losses of the channels so far, at each lane. -/
theorem accs_apply (g t : S8192.Idx → Elt Ideal .f32) (p : Fin 32) (n : ℕ) (y : S16.Idx) :
    accs g t p n y = (∑ k ∈ Finset.range n, bce (chunk g p k y) (chunk t p k y) : EReal) := by
  induction n with
  | zero => exact zero16_apply y
  | succ n ih =>
    rw [Finset.sum_range_succ, ← ih]
    exact bceStep_apply _ _ _ y

/-- The losses of the pairs listed, at each lane. -/
theorem accPairs_apply (lv : Fin 32 → BitVec 1) (g t : S8192.Idx → Elt Ideal .f32) (l : List (Fin 32)) (v : FVec Ideal S16 .f32) (y : S16.Idx) :
    accPairs lv g t l v y = (v y + (l.map fun p => if isLive lv p then (accs g t p 16 y : EReal) else 0).sum : EReal) := by
  induction l generalizing v with
  | nil => exact (add_zero (v y : EReal)).symm
  | cons p l ih =>
    show accPairs lv g t l (if isLive lv p then addf v (accs g t p 16) else v) y = _
    rw [ih, List.map_cons, List.sum_cons, ← add_assoc]
    refine congrArg (· + _) ?_
    cases isLive lv p
    · exact (add_zero (v y : EReal)).symm
    · rfl

theorem lo_hi : lo ++ hi = List.finRange 32 := by decide

theorem accPairs_all (lv : Fin 32 → BitVec 1) (g t : S8192.Idx → Elt Ideal .f32) (y : S16.Idx) :
    accPairs lv g t hi (accPairs lv g t lo zero16) y = (∑ p : Fin 32, if isLive lv p then (accs g t p 16 y : EReal) else 0 : EReal) := by
  have h : accPairs lv g t hi (accPairs lv g t lo zero16) = accPairs lv g t (lo ++ hi) zero16 := (List.foldl_append ..).symm
  rw [h, accPairs_apply, zero16_apply, zero_add, lo_hi, Fin.sum_univ_def]

/-! ## The number of unmasked pairs -/

theorem isLive_eq (lv : Fin 32 → BitVec 1) (p : Fin 32) : isLive lv p = decide (lv p = 1#1) := by
  unfold isLive
  generalize lv p = b
  revert b; decide

theorem counts_toNat (lv : Fin 32 → BitVec 1) (l : List (Fin 32)) (n : BitVec 32) (h : n.toNat + l.length < 4294967296) :
    (counts lv l n).toNat = n.toNat + (l.map fun p => if lv p = 1#1 then 1 else 0).sum := by
  induction l generalizing n with
  | nil => rfl
  | cons p l ih =>
    rw [List.length_cons] at h
    have e : (Scalar.addi n (one (lv p))).toNat = n.toNat + if lv p = 1#1 then 1 else 0 := by
      show (n + one (lv p)).toNat = _
      have h1 : (one (lv p)).toNat = if lv p = 1#1 then 1 else 0 := by
        generalize lv p = b
        revert b; decide
      have h2 : (if lv p = 1#1 then 1 else 0) ≤ 1 := by split <;> decide
      rw [BitVec.toNat_add, h1]
      exact Nat.mod_eq_of_lt (by omega)
    have h2 : (if lv p = 1#1 then 1 else 0) ≤ 1 := by split <;> decide
    show (counts lv l (Scalar.addi n (one (lv p)))).toNat = _
    rw [ih _ (by rw [e]; omega), e, List.map_cons, List.sum_cons, Nat.add_assoc]

theorem counts_all (lv : Fin 32 → BitVec 1) : (counts lv (lo ++ hi) 0#32).toNat = ∑ p : Fin 32, if lv p = 1#1 then 1 else 0 := by
  rw [counts_toNat _ _ _ (by decide), lo_hi, Fin.sum_univ_def]
  exact Nat.zero_add _

theorem sum_ite_le (lv : Fin 32 → BitVec 1) : (∑ p : Fin 32, if lv p = 1#1 then 1 else 0) ≤ 32 :=
  (Finset.sum_le_sum (g := fun _ => 1) fun p _ => by split <;> decide).trans (by simp)

/-- The count's vector: the count in lane 0, else zero. -/
theorem countVec_apply (n : BitVec 32) (hn : n.toNat < 2147483648) (k : Fin 16) :
    (countVec (F := Ideal) n (laneIx k) : EReal) = if k = 0 then (((n.toNat : ℕ) : ℝ) : EReal) else 0 := by
  have hi : n.toInt = (n.toNat : ℤ) := BitVec.toInt_eq_toNat_of_lt (by omega)
  have hl : lanes (laneIx k) = BitVec.ofNat 32 k.val := lanes_apply _
  show Scalar.select (IntOp.cmpi .eq (lanes (laneIx k)) 0#32)
    ((((lanes (laneIx k)).toInt : ℝ) : EReal) * (zero16 (F := Ideal) (laneIx k) : EReal) + ((n.toInt : ℝ) : EReal)) (zero16 (F := Ideal) (laneIx k) : EReal) = _
  rw [zero16_apply, mul_zero, zero_add, hl, hi]
  have hc : IntOp.cmpi .eq (BitVec.ofNat 32 k.val) 0#32 = if k = 0 then 1#1 else 0#1 := by revert k; decide
  rw [hc, Int.cast_natCast]
  split <;> rfl

theorem sum_countVec (n : BitVec 32) (hn : n.toNat < 2147483648) :
    (∑ k : Fin 16, (countVec (F := Ideal) n (laneIx k) : EReal)) = (((n.toNat : ℕ) : ℝ) : EReal) := by
  rw [Finset.sum_congr rfl fun k _ => countVec_apply n hn k, Finset.sum_ite_eq' Finset.univ (0 : Fin 16) fun _ => (((n.toNat : ℕ) : ℝ) : EReal)]
  simp

/-! ## What the arguments hold where a subcore reads -/

variable (i : grid0.Coords) (a0 : S8x256x128x128.Idx → Elt Ideal .f32) (a1 a2 : S8x128.Idx → BitVec 32) (a3 : S8x128x256.Idx → Elt Ideal .f32)

theorem pairs_apply (a : S8x128.Idx → BitVec 32) (w p : Fin 32) :
    shapeCast S1024 a shapeCasts_S8x128_S1024 (pairIx w p) = a (qIx (w.val * 32 + p.val)) := by
  refine congrArg a (Shape.reshapeEquiv_eq_of_vals _ _ _ _ _ (rowMajor_val2 (d := S8x128.size) _ 128 rfl) (rowMajor_val1 (d := S1024.size) _) ?_)
  show (w.val * 32 + p.val) / 128 % 8 * 128 + (w.val * 32 + p.val) % 128 = w.val * 32 + p.val
  omega

theorem chunk_tgt (p : Fin 32) (k y : Fin 16) :
    chunk (tgtOf (F := Ideal) i (shapeCast S262144 a3 shapeCasts_S8x128x256_S262144)) p k (laneIx y) = target a3 ((wid i).val * 32 + p.val) (k.val * 16 + y.val) := by
  unfold chunk
  rw [tgtOf_apply]
  refine congrArg a3 (Shape.reshapeEquiv_eq_of_vals _ _ _ _ _ (rowMajor_val3 (d := S8x128x256.size) _ 32768 256 rfl rfl) (rowMajor_val1 (d := S262144.size) _) ?_)
  show ((wid i).val * 32 + p.val) / 128 % 8 * 32768 + ((wid i).val * 32 + p.val) % 128 * 256 + (k.val * 16 + y.val) % 256
    = (wid i).val * 8192 + (p.val * 256 + k.val * 16 + y.val) % 8192
  omega

theorem chunk_gath (h : ∀ j, (a2 j).toNat < 16384) (p : Fin 32) (k y : Fin 16) :
    chunk (gath (baseOf (F := Ideal) i (shapeCast S1024 a2 shapeCasts_S8x128_S1024)) (shapeCast S33554432 a0 shapeCasts_S8x256x128x128_S33554432)) p k (laneIx y)
      = pred a0 a2 ((wid i).val * 32 + p.val) (k.val * 16 + y.val) := by
  unfold chunk gath
  refine congrArg a0 (Shape.reshapeEquiv_eq_of_vals _ _ _ _ _ (rowMajor_val4 (d := S8x256x128x128.size) _ 4194304 16384 128 rfl rfl rfl)
    (rowMajor_val1 (d := S33554432.size) _) ?_)
  have hx := idxW_toNat (F := Ideal) i (shapeCast S1024 a2 shapeCasts_S8x128_S1024) (fun j => h _)
    (fun a => ⟨(p.val * 256 + k.val * 16 + y.val) % 8192, by obtain rfl := Subsingleton.elim a 0; exact Nat.mod_lt _ (by decide)⟩)
  have hp : pairOf (fun a => ⟨(p.val * 256 + k.val * 16 + y.val) % 8192, by obtain rfl := Subsingleton.elim a 0; exact Nat.mod_lt _ (by decide)⟩) = p := by
    apply Fin.ext
    show (p.val * 256 + k.val * 16 + y.val) % 8192 / 256 = p.val
    omega
  rw [hp, pairs_apply] at hx
  have hr := h (qIx ((wid i).val * 32 + p.val))
  show ((wid i).val * 32 + p.val) / 128 % 8 * 4194304 + (k.val * 16 + y.val) % 256 * 16384
    + (a2 (qIx ((wid i).val * 32 + p.val))).toNat / 128 % 128 * 128 + (a2 (qIx ((wid i).val * 32 + p.val))).toNat % 128 = (idxW _ _).toNat % 33554432
  refine Eq.trans ?_ (congrArg (· % 33554432) hx).symm
  show _ = (((wid i).val * 32 + (p.val * 256 + k.val * 16 + y.val) % 8192 / 256) / 128 * 4194304 + (a2 (qIx ((wid i).val * 32 + p.val))).toNat
    + (p.val * 256 + k.val * 16 + y.val) % 8192 % 256 * 16384) % 33554432
  generalize (a2 (qIx ((wid i).val * 32 + p.val))).toNat = r at *
  have := (wid i).isLt
  omega

/-- A pair is unmasked by its word of the mask. -/
theorem live_iff (p : Fin 32) : lvOf (F := Ideal) i (shapeCast S1024 a1 shapeCasts_S8x128_S1024) p = 1#1 ↔ a1 (qIx ((wid i).val * 32 + p.val)) ≠ 0#32 := by
  rw [lvOf_eq, pairs_apply]
  generalize a1 (qIx ((wid i).val * 32 + p.val)) = b
  show BitVec.ofBool (b != 0#32) = 1#1 ↔ _
  by_cases hb : b = 0#32
  · subst hb; decide
  · rw [bne_iff_ne.mpr hb]
    exact ⟨fun _ => hb, fun _ => rfl⟩

/-! ## A subcore's row of the partial results -/

/-- The first half of a subcore's row: at each lane, the losses of its pairs in that lane's channels. -/
theorem outRow_lo (h : ∀ j, (a2 j).toNat < 16384) (z : S32.Idx) (y : Fin 16) (hz : (z 0).val = y.val) :
    outRow (F := Ideal) i (shapeCast S33554432 a0 shapeCasts_S8x256x128x128_S33554432) (shapeCast S1024 a2 shapeCasts_S8x128_S1024)
      (shapeCast S1024 a1 shapeCasts_S8x128_S1024) (shapeCast S262144 a3 shapeCasts_S8x128x256_S262144) z
      = (∑ p : Fin 32, ∑ k : Fin 16, lossAt a0 a1 a2 a3 ((wid i).val * 32 + p.val) (k.val * 16 + y.val) : EReal) := by
  have hy : (z 0).val < 16 := by have := y.isLt; omega
  unfold outRow joinHalves
  rw [dif_pos hy]
  have e : (fun a => ⟨(z 0).val, by obtain rfl := Subsingleton.elim a 0; exact hy⟩ : S16.Idx) = laneIx y := ext16 hz
  rw [e, accPairs_all]
  refine Finset.sum_congr rfl fun p _ => ?_
  rw [isLive_eq, accs_apply, Finset.sum_range]
  by_cases hl : a1 (qIx ((wid i).val * 32 + p.val)) = 0#32
  · rw [decide_eq_false fun h' => (live_iff i a1 p).mp h' hl, if_neg Bool.false_ne_true]
    refine (Finset.sum_eq_zero fun k _ => ?_).symm
    unfold lossAt
    rw [if_pos hl]
  · rw [decide_eq_true ((live_iff i a1 p).mpr hl), if_pos rfl]
    refine Finset.sum_congr rfl fun k _ => ?_
    rw [chunk_gath i a0 a2 h, chunk_tgt]
    unfold lossAt
    rw [if_neg hl]

/-- The second half of a subcore's row sums to the number of its unmasked pairs. -/
theorem outRow_hi (ft : S33554432.Idx → Elt Ideal .f32) (ai : S1024.Idx → BitVec 32) (at' : S262144.Idx → Elt Ideal .f32) (f : Fin 16 → S32.Idx)
    (hf : ∀ k, (f k 0).val = 16 + k.val) :
    (∑ k : Fin 16, (outRow (F := Ideal) i ft ai (shapeCast S1024 a1 shapeCasts_S8x128_S1024) at' (f k) : EReal))
      = (((∑ p : Fin 32, liveAt a1 ((wid i).val * 32 + p.val) : ℕ) : ℝ) : EReal) := by
  have hc := counts_all (lvOf (F := Ideal) i (shapeCast S1024 a1 shapeCasts_S8x128_S1024))
  have hle := sum_ite_le (lvOf (F := Ideal) i (shapeCast S1024 a1 shapeCasts_S8x128_S1024))
  have hs := sum_countVec (counts (lvOf (F := Ideal) i (shapeCast S1024 a1 shapeCasts_S8x128_S1024)) (lo ++ hi) 0#32) (by rw [hc]; omega)
  have e : ∀ k, (outRow (F := Ideal) i ft ai (shapeCast S1024 a1 shapeCasts_S8x128_S1024) at' (f k) : EReal)
      = countVec (F := Ideal) (counts (lvOf (F := Ideal) i (shapeCast S1024 a1 shapeCasts_S8x128_S1024)) (lo ++ hi) 0#32) (laneIx k) := by
    intro k
    unfold outRow joinHalves
    rw [dif_neg (by rw [hf]; omega)]
    refine congrArg (countVec _) (ext16 ?_)
    show (f k 0).val - 16 = k.val
    rw [hf]; omega
  rw [Finset.sum_congr rfl fun k _ => e k, hs, hc]
  refine congrArg (fun n : ℕ => ((n : ℝ) : EReal)) (Finset.sum_congr rfl fun p _ => ?_)
  unfold liveAt
  by_cases hl : a1 (qIx ((wid i).val * 32 + p.val)) = 0#32
  · rw [if_neg fun h' => (live_iff i a1 p).mp h' hl, if_pos hl]
  · rw [if_pos ((live_iff i a1 p).mpr hl), if_neg hl]

/-! ## The result -/

/-- Over all the subcores, a sum over their pairs is the sum over the pairs. -/
theorem sum_pairs {M : Type*} [AddCommMonoid M] (f : ℕ → M) : ∑ w : Fin 32, ∑ p : Fin 32, f (w.val * 32 + p.val) = ∑ n ∈ Finset.range 1024, f n :=
  sum_tiles 32 32 f

/-- Over all the lanes, a sum over the channel blocks is the sum over the channels. -/
theorem sum_channels {M : Type*} [AddCommMonoid M] (f : ℕ → M) : ∑ y : Fin 16, ∑ k : Fin 16, f (k.val * 16 + y.val) = ∑ c ∈ Finset.range 256, f c := by
  rw [Finset.sum_comm]
  exact sum_tiles 16 16 f

/-- The sum of the first halves of the partial results is the sum of the losses. -/
theorem sum_lo (h : ∀ j, (a2 j).toNat < 16384) (f : Fin 32 → Fin 16 → S32.Idx) (hf : ∀ w y, (f w y 0).val = y.val) :
    (∑ w : Fin 32, ∑ y : Fin 16, (outRow (F := Ideal) (coordsOf w) (shapeCast S33554432 a0 shapeCasts_S8x256x128x128_S33554432)
      (shapeCast S1024 a2 shapeCasts_S8x128_S1024) (shapeCast S1024 a1 shapeCasts_S8x128_S1024) (shapeCast S262144 a3 shapeCasts_S8x128x256_S262144) (f w y) : EReal))
      = ∑ n ∈ Finset.range 1024, ∑ c ∈ Finset.range 256, lossAt a0 a1 a2 a3 n c := by
  rw [← sum_pairs]
  refine Finset.sum_congr rfl fun w _ => ?_
  rw [Finset.sum_congr rfl fun y _ => outRow_lo (coordsOf w) a0 a1 a2 a3 h (f w y) y (hf w y), Finset.sum_comm]
  refine Finset.sum_congr rfl fun p _ => ?_
  rw [wid_coordsOf]
  exact sum_channels fun c => lossAt a0 a1 a2 a3 (w.val * 32 + p.val) c

/-- The sum of the second halves is the number of the unmasked pairs. -/
theorem sum_hi (ft : S33554432.Idx → Elt Ideal .f32) (ai : S1024.Idx → BitVec 32) (at' : S262144.Idx → Elt Ideal .f32) (f : Fin 32 → Fin 16 → S32.Idx)
    (hf : ∀ w y, (f w y 0).val = 16 + y.val) :
    (∑ w : Fin 32, ∑ y : Fin 16, (outRow (F := Ideal) (coordsOf w) ft ai (shapeCast S1024 a1 shapeCasts_S8x128_S1024) at' (f w y) : EReal))
      = (((∑ n ∈ Finset.range 1024, liveAt a1 n : ℕ) : ℝ) : EReal) := by
  rw [← sum_pairs, ← sum_coe]
  refine Finset.sum_congr rfl fun w _ => ?_
  rw [outRow_hi (coordsOf w) a1 ft ai at' (f w) (hf w), wid_coordsOf]

/-- The kernel's result is the masked mean of the losses. -/
theorem resultOf_partials (m : (ℓ : Loc nD τ sig) → Buf (Elt Ideal) ℓ) (d : Dev nD) (h : ∀ j, ((m (d, arg2') : S8x128.Idx → BitVec 32) j).toNat < 16384) :
    resultOf (partials (V1 m) d) = fun _ => meanLoss (m (d, arg0')) (m (d, arg1')) (m (d, arg2')) (m (d, arg3')) := by
  funext j
  unfold resultOf meanLoss
  rw [ValueIdx.hostDivf_apply]
  have e0 : ∀ x, (constant (F := Ideal) S_ .f32 0x00000000#32 x : EReal) = 0 := fun _ => Ideal.ofBits_zero_f32
  refine congrArg₂ Ideal.div ?_ ?_
  · rw [ValueIdx.hostReduceAdd_apply, Ideal.hostReduceAdd_total _ (fun b => b.elim0), e0, zero_add, sum_idx2]
    refine Eq.trans ?_ (sum_lo (m (d, arg0')) (m (d, arg1')) (m (d, arg2')) (m (d, arg3')) h (fun w y => fun a => ⟨y.val, by
      obtain rfl := Subsingleton.elim a 0; have := y.isLt; show _ < 32; omega⟩) fun _ _ => rfl)
    refine Finset.sum_congr rfl fun w _ => Finset.sum_congr rfl fun y _ => ?_
    show partials (V1 m) d _ = _
    unfold partials
    rw [V1_tab, V1_ind, V1_msk, V1_tgt]
    refine congrArg₂ (fun w z => outRow (F := Ideal) (coordsOf w) _ _ _ _ z) (Fin.ext ?_) (ext32 ?_)
    · show 0 + w.val = w.val
      omega
    · show 0 + y.val = y.val
      omega
  · show (_ * Ideal.ofBits .f32 0x43800000#32 + Ideal.ofBits .f32 0x38D1B717#32 : EReal) = _
    refine congrArg (· + Ideal.ofBits .f32 0x38D1B717#32) ?_
    rw [ValueIdx.hostReduceAdd_apply, Ideal.hostReduceAdd_total _ (fun b => b.elim0), e0, zero_add, sum_idx2, ofBits_256, ← mul_coe]
    refine congrArg (· * _) (Eq.trans ?_ (sum_hi (m (d, arg1')) (V1 m d tab') (V1 m d ind') (V1 m d tgt') (fun w y => fun a => ⟨16 + y.val, by
      obtain rfl := Subsingleton.elim a 0; have := y.isLt; show _ < 32; omega⟩) fun _ _ => rfl))
    refine Finset.sum_congr rfl fun w _ => Finset.sum_congr rfl fun y _ => ?_
    show partials (V1 m) d _ = _
    unfold partials
    rw [V1_msk]
    refine congrArg₂ (fun w z => outRow (F := Ideal) (coordsOf w) _ _ _ _ z) (Fin.ext ?_) (ext32 ?_)
    · show 0 + w.val = w.val
      omega
    · show 16 + y.val = 16 + y.val
      rfl

end Cert.Proof.Sc

end
-- ==== Proof.ReferenceLoss.lean ====
/-
  The reference's result over the extended reals: the masked mean of the losses.
-/
module

public import Idealize.ShloMosaic.Lib.ReduceAll
public import Idealize.ShloMosaic.Lib.WordCmp
public import proofs.«01_k».proof.Proof.Loss
public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe Idealize.SL.Sem
open Cert.Proof.Loss

variable (a0 : S8x256x128x128.Idx → EReal) (a1 a2 : S8x128.Idx → BitVec 32) (a3 : S8x128x256.Idx → EReal)

/-! ## The reference's steps by name -/

/-- The mask over every element. -/
def mask3 : IVec S8x128x256 1 :=
  broadcastInDim S8x128x256 ![0, 1, 2] bcast_S8x128x1_S8x128x256_0_1_2 (broadcastInDim S8x128x1 ![0, 1] bcast_S8x128_S8x128x1_0_1
    (id (cmpi .ne a1 (broadcastInDim S8x128 ![] bcast_S_S8x128 (constantI S_ 32 0#32)))))

/-- The row numbers, as a column. -/
def col : IVec S8x128x1 32 := broadcastInDim S8x128x1 ![0, 1] bcast_S8x128_S8x128x1_0_1 a2

/-- The row numbers, one below zero counted from the end. -/
def rows : IVec S8x128x1 32 :=
  select (cmpi .slt (col a2) (broadcastInDim S8x128x1 ![] bcast_S_S8x128x1 (constantI S_ 32 0#32)))
    (addi (col a2) (broadcastInDim S8x128x1 ![] bcast_S_S8x128x1 (constantI S_ 32 16384#32))) (col a2)

/-- Whether each row number is in range. -/
def inRange : IVec S8x128 1 :=
  Host.reduce IntOp.andi (andi (cmpi .sge (rows a2) (broadcastInDim S8x128x1 ![] bcast_S_S8x128x1 (constantI S_ 32 0#32)))
    (cmpi .sle (rows a2) (broadcastInDim S8x128x1 ![0, 1, 2] bcast_S1x1x1_S8x128x1_0_1_2 (broadcastInDim S1x1x1 ![2] bcast_S1_S1x1x1_2 (constantI S1 32 16383#32)))))
    (constantI S_ 1 1#1) reducesTo_S8x128x1_S8x128_d2 h_S_

/-- The features, a row to a place. -/
def feat : S8x16384x256.Idx → EReal :=
  shapeCast _ (transpose S8x128x128x256 [0, 2, 3, 1] a0 transposes_S8x256x128x128_S8x128x128x256_0_2_3_1) shapeCasts_S8x128x128x256_S8x16384x256

/-- The rows gathered. -/
def pred3 : FVec Ideal S8x128x256 .f32 :=
  select (broadcastInDim S8x128x256 ![0, 1] bcast_S8x128_S8x128x256_0_1 (inRange a2))
    (Host.gather gather_S8x16384x256_S8x128x1_S8x128x256_2_1_0_0_1_2_11256 (feat a0) (rows a2))
    (broadcastInDim S8x128x256 ![] bcast_S_S8x128x256 (constant S_ .f32 0x7FC00000#32))

/-- A constant over every element. -/
def splat (b : BitVec 32) : FVec Ideal S8x128x256 .f32 := broadcastInDim S8x128x256 ![] bcast_S_S8x128x256 (constant S_ .f32 b)

/-- The loss of predictions `x` against targets `t`, element by element. -/
def loss3 (x t : FVec Ideal S8x128x256 .f32) : FVec Ideal S8x128x256 .f32 :=
  have e : FVec Ideal S8x128x256 .f32 := Host.exp (Host.negf (Host.absf x))
  addf (subf (maximumf x (splat 0x00000000#32)) (mulf x t))
    (addf (splat 0x366B6349#32) (mulf e (addf (splat 0x3F7FF266#32) (mulf e (addf (splat 0xBEFE73E4#32) (mulf e (addf (splat 0x3EA11203#32) (mulf e
      (addf (splat 0xBE41503F#32) (mulf e (addf (splat 0x3DA76063#32) (mulf e (splat 0xBC8CF7EB#32)))))))))))))

/-- The reference's result from its steps. -/
theorem res_eq (m : (ℓ : Loc nD τ sig) → Buf (Elt Ideal) ℓ) (c : Dev nD) :
    Cert.ReferenceIdeal.Value.res_main_v41 m c
      = Host.divf (Host.reduceAdd (F := Ideal) (φ := .f32) (select (mask3 (m ((c.tc : Thread nD τ).loc main_arg1)))
          (loss3 (pred3 (m ((c.tc : Thread nD τ).loc main_arg0)) (m ((c.tc : Thread nD τ).loc main_arg2))) (m ((c.tc : Thread nD τ).loc main_arg3)))
          (broadcastInDim S8x128x256 ![] bcast_S_S8x128x256 (id (constant (F := Ideal) S_ .f32 0x00000000#32))))
          (constant S_ .f32 0x00000000#32) reducesTo_S8x128x256_S_d0_1_2 h_S_)
        (addf (Host.reduceAdd (uitofp .f32 (mask3 (m ((c.tc : Thread nD τ).loc main_arg1)))) (constant S_ .f32 0x00000000#32) reducesTo_S8x128x256_S_d0_1_2 h_S_)
          (constant S_ .f32 0x38D1B717#32)) := rfl

/-! ## The steps at an element -/

/-- The index of pair `b * 128 + k`. -/
theorem qIx_mk (b : Fin 8) (k : Fin 128) : qIx (b.val * 128 + k.val) = ix2 b k := by
  unfold qIx
  refine (ix2_inj _ _ _ _).mpr ⟨Fin.ext ?_, Fin.ext ?_⟩
  · show (b.val * 128 + k.val) / 128 % 8 = b.val
    omega
  · show (b.val * 128 + k.val) % 128 = k.val
    omega

theorem mask3_apply (b : Fin 8) (k : Fin 128) (c : Fin 256) : mask3 a1 (ix3 b k c) = IntOp.cmpi .ne (a1 (ix2 b k)) 0#32 := by
  show IntOp.cmpi .ne (a1 _) 0#32 = _
  refine congrArg (fun j => IntOp.cmpi .ne (a1 j) 0#32) (funext fun a => ?_)
  match a with
  | 0 => rfl
  | 1 => rfl

theorem col_apply (b : Fin 8) (k : Fin 128) (u : Fin 1) : col a2 (ix3 b k u) = a2 (ix2 b k) := by
  refine congrArg a2 (funext fun a => ?_)
  match a with
  | 0 => rfl
  | 1 => rfl

/-- A row number in range is left as it is. -/
theorem rows_apply (h : ∀ j, (a2 j).toNat < 16384) (j : S8x128x1.Idx) : rows a2 j = a2 (ix2 (j 0) (j 1)) := by
  have e : col a2 j = a2 (ix2 (j 0) (j 1)) := by
    rw [eq_ix3 j]; exact col_apply a2 (j 0) (j 1) (j 2)
  show Scalar.select (IntOp.cmpi .slt (col a2 j) 0#32) (col a2 j + 16384#32) (col a2 j) = _
  rw [e]
  have hj := h (ix2 (j 0) (j 1))
  rw [WordCmp.cmpi_slt_of_lt (by show _ < 2147483648; omega) (by decide)]
  rfl

theorem inRange_apply (h : ∀ j, (a2 j).toNat < 16384) (j : S8x128.Idx) : inRange a2 j = 1#1 := by
  refine Host.reduce_andi_one _ _ _ _ _ rfl fun i => ?_
  show IntOp.andi (IntOp.cmpi .sge (rows a2 i) 0#32) (IntOp.cmpi .sle (rows a2 i) 16383#32) = 1#1
  rw [rows_apply a2 h]
  have hj := h (ix2 (i 0) (i 1))
  rw [WordCmp.cmpi_sge_of_lt (by show _ < 2147483648; omega) (by decide), WordCmp.cmpi_sle_of_lt (by show _ < 2147483648; omega) (by decide),
    decide_eq_true (show (0#32).toNat ≤ _ from Nat.zero_le _), decide_eq_true (show _ ≤ (16383#32).toNat by show _ ≤ 16383; omega)]
  rfl

/-- The features at a place: the channel at the row's two coordinates. -/
theorem feat_apply (b : Fin 8) (r : Fin 16384) (c : Fin 256) :
    feat a0 (ix3 b r c) = a0 (ix4 b c ⟨r.val / 128, by omega⟩ ⟨r.val % 128, by omega⟩) := by
  have e : Shape.reshapeEquiv shapeCasts_S8x128x128x256_S8x16384x256 (ix3 b r c) = (ix4 b (⟨r.val / 128, by omega⟩ : Fin 128) (⟨r.val % 128, by omega⟩ : Fin 128) c) := by
    refine Shape.reshapeEquiv_eq_of_vals _ _ _ _ _ (rowMajor_val4 (d := S8x128x128x256.size) _ 4194304 32768 256 rfl rfl rfl)
      (rowMajor_val3 (d := S8x16384x256.size) _ 4194304 256 rfl rfl) ?_
    show b.val * 4194304 + r.val / 128 * 32768 + r.val % 128 * 256 + c.val = b.val * 4194304 + r.val * 256 + c.val
    omega
  unfold feat
  rw [Pointwise.shapeCast_apply]
  rw [e]
  refine congrArg a0 (funext fun a => ?_)
  match a with
  | 0 => rfl
  | 1 => rfl
  | 2 => rfl
  | 3 => rfl

/-- The gather at an element: the batch, the row its index names, the channel. -/
theorem gather_apply (x : S8x16384x256.Idx → EReal) (idx : IVec S8x128x1 32) (b : Fin 8) (k : Fin 128) (c : Fin 256) (r : Fin 16384)
    (hr : (idx (ix3 b k 0)).toInt.toNat = r.val) :
    Host.gather gather_S8x16384x256_S8x128x1_S8x128x256_2_1_0_0_1_2_11256 x idx (ix3 b k c) = x (ix3 b r c) := by
  refine congrArg x (funext fun a => Fin.ext ?_)
  show (gather_S8x16384x256_S8x128x1_S8x128x256_2_1_0_0_1_2_11256).start (ix3 b k c) idx a
    + (gather_S8x16384x256_S8x128x1_S8x128x256_2_1_0_0_1_2_11256).batchCoord (ix3 b k c) a
    + (gather_S8x16384x256_S8x128x1_S8x128x256_2_1_0_0_1_2_11256).offCoord (ix3 b k c) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S8x16384x256.rank) ∈ gather_S8x16384x256_S8x128x1_S8x128x256_2_1_0_0_1_2_11256.operandBatchingDims from List.mem_singleton.mpr rfl),
      Nat.zero_add, Nat.add_zero]
    rfl
  | 1 =>
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    unfold GatherDims.start
    rw [dif_pos (show (1 : Fin S8x16384x256.rank) ∈ gather_S8x16384x256_S8x128x1_S8x128x256_2_1_0_0_1_2_11256.startIndexMap from List.mem_singleton.mpr rfl),
      Nat.add_zero]
    have hsi : (gather_S8x16384x256_S8x128x1_S8x128x256_2_1_0_0_1_2_11256).siIdx (ix3 b k c)
        ⟨List.idxOf (1 : Fin 3) (gather_S8x16384x256_S8x128x1_S8x128x256_2_1_0_0_1_2_11256).startIndexMap,
          List.idxOf_lt_length_iff.2 (List.mem_singleton.mpr rfl)⟩ = ix3 b k 0 := by
      funext b'
      match b' with
      | 0 => rfl
      | 1 => rfl
      | 2 => rfl
    refine (congrArg (fun j => min (idx j).toInt.toNat (16384 - 1)) hsi).trans ?_
    show min (idx (ix3 b k 0)).toInt.toNat (16384 - 1) = r.val
    rw [hr]
    have := r.isLt
    omega
  | 2 =>
    rw [GatherDims.batchCoord_eq_zero _ _ _ (show (2 : Fin 3) ∉ ([0] : List (Fin 3)) by decide)]
    unfold GatherDims.start
    rw [dif_neg (show (2 : Fin S8x16384x256.rank) ∉ gather_S8x16384x256_S8x128x1_S8x128x256_2_1_0_0_1_2_11256.startIndexMap from
      show (2 : Fin 3) ∉ ([1] : List (Fin 3)) by decide), Nat.zero_add]
    rfl

/-- The prediction at an element. -/
theorem pred3_apply (h : ∀ j, (a2 j).toNat < 16384) (b : Fin 8) (k : Fin 128) (c : Fin 256) :
    pred3 a0 a2 (ix3 b k c) = pred a0 a2 (b.val * 128 + k.val) c.val := by
  have hr := h (ix2 b k)
  have hm : broadcastInDim S8x128x256 ![0, 1] bcast_S8x128_S8x128x256_0_1 (inRange a2) (ix3 b k c) = 1#1 := inRange_apply a2 h _
  show Scalar.select (broadcastInDim S8x128x256 ![0, 1] bcast_S8x128_S8x128x256_0_1 (inRange a2) (ix3 b k c))
    (Host.gather gather_S8x16384x256_S8x128x1_S8x128x256_2_1_0_0_1_2_11256 (feat a0) (rows a2) (ix3 b k c)) _ = _
  rw [hm, gather_apply (feat a0) (rows a2) b k c ⟨(a2 (ix2 b k)).toNat, hr⟩ (by
    rw [rows_apply a2 h, WordCmp.toInt_eq_toNat_of_lt_half (by show (a2 (ix2 b k)).toNat < 2147483648; omega)]; rfl), feat_apply]
  refine Eq.trans (if_pos rfl) ?_
  unfold pred
  have hq := qIx_mk b k
  refine congrArg a0 (funext fun a => Fin.ext ?_)
  match a with
  | 0 => show b.val = (b.val * 128 + k.val) / 128 % 8; omega
  | 1 => show c.val = c.val % 256; omega
  | 2 => show (a2 (ix2 b k)).toNat / 128 = (a2 (qIx (b.val * 128 + k.val))).toNat / 128 % 128; rw [hq]; omega
  | 3 => show (a2 (ix2 b k)).toNat % 128 = (a2 (qIx (b.val * 128 + k.val))).toNat % 128; rw [hq]

/-- A constant over every element, at an element. -/
theorem splat_apply (b : BitVec 32) (j : S8x128x256.Idx) : splat b j = Ideal.ofBits .f32 b := rfl

/-- The polynomial with its factors and summands the other way round. -/
theorem poly_comm (e : EReal) :
    Ideal.ofBits .f32 0x366B6349#32 + e * (Ideal.ofBits .f32 0x3F7FF266#32 + e * (Ideal.ofBits .f32 0xBEFE73E4#32 + e * (Ideal.ofBits .f32 0x3EA11203#32
      + e * (Ideal.ofBits .f32 0xBE41503F#32 + e * (Ideal.ofBits .f32 0x3DA76063#32 + e * Ideal.ofBits .f32 0xBC8CF7EB#32))))) = poly e := by
  unfold poly
  simp only [mul_comm e]
  simp only [add_comm (_ : EReal) (_ * e)]

/-- The loss at an element. -/
theorem loss3_apply (x t : FVec Ideal S8x128x256 .f32) (j : S8x128x256.Idx) : loss3 x t j = bce (x j) (t j) := by
  have hz : (splat 0x00000000#32 j : EReal) = 0 := Ideal.ofBits_zero_f32
  show ((max (x j) (splat 0x00000000#32 j : EReal) - x j * t j) + _ : EReal) = _
  rw [hz]
  exact congrArg ((max (x j) 0 - x j * t j : EReal) + ·) (poly_comm (Ideal.exp (-(max (x j) (-(x j))))))

/-! ## The result -/

/-- Over the batches, a sum over the pairs of each is the sum over the pairs. -/
theorem sum_batches {M : Type*} [AddCommMonoid M] (f : ℕ → M) : ∑ b : Fin 8, ∑ k : Fin 128, f (b.val * 128 + k.val) = ∑ n ∈ Finset.range 1024, f n :=
  sum_tiles 8 128 f

/-- A loss `β` of pair `n` in channel `c`: nothing if the pair is masked. -/
def maskedAt (β : EReal → EReal → EReal) (n c : ℕ) : EReal := if a1 (qIx n) = 0#32 then 0 else β (pred a0 a2 n c) (target a3 n c)

/-- The masked loss at an element, for a loss `l` that is `β` element by element. -/
theorem masked_apply (l : FVec Ideal S8x128x256 .f32 → FVec Ideal S8x128x256 .f32 → FVec Ideal S8x128x256 .f32) (β : EReal → EReal → EReal)
    (hβ : ∀ x t j, (l x t j : EReal) = β (x j) (t j)) (h : ∀ j, (a2 j).toNat < 16384) (z : FVec Ideal S8x128x256 .f32) (hz : ∀ j, (z j : EReal) = 0) (b : Fin 8) (k : Fin 128) (c : Fin 256) :
    select (mask3 a1) (l (pred3 a0 a2) a3) z (ix3 b k c)
      = maskedAt a0 a1 a2 a3 β (b.val * 128 + k.val) c.val := by
  show Scalar.select (mask3 a1 (ix3 b k c)) (l (pred3 a0 a2) a3 (ix3 b k c)) (z (ix3 b k c)) = _
  have ht : a3 (ix3 b k c) = target a3 (b.val * 128 + k.val) c.val := by
    refine congrArg a3 (funext fun a => Fin.ext ?_)
    match a with
    | 0 => show b.val = (b.val * 128 + k.val) / 128 % 8; omega
    | 1 => show k.val = (b.val * 128 + k.val) % 128; omega
    | 2 => show c.val = c.val % 256; omega
  rw [mask3_apply, hβ, pred3_apply a0 a2 h, ht, hz, WordCmp.cmpi_ne_eq]
  unfold maskedAt
  rw [qIx_mk]
  by_cases hl : a1 (ix2 b k) = 0#32
  · rw [if_pos hl, decide_eq_false (not_not.mpr hl)]
    rfl
  · rw [if_neg hl, decide_eq_true hl]
    rfl

/-- The mask at an element, as a number. -/
theorem count_apply (b : Fin 8) (k : Fin 128) (c : Fin 256) :
    (uitofp (F := Ideal) .f32 (mask3 a1) (ix3 b k c) : EReal) = (((liveAt a1 (b.val * 128 + k.val) : ℕ) : ℝ) : EReal) := by
  show ((((mask3 a1 (ix3 b k c)).toNat : ℕ) : ℝ) : EReal) = _
  rw [mask3_apply, WordCmp.cmpi_ne_eq]
  unfold liveAt
  rw [qIx_mk]
  by_cases hl : a1 (ix2 b k) = 0#32
  · rw [if_pos hl, decide_eq_false (not_not.mpr hl)]
    rfl
  · rw [if_neg hl, decide_eq_true hl]
    rfl

/-- The sums start at zero. -/
theorem const_zero (x : S_.Idx) : (constant (F := Ideal) S_ .f32 0x00000000#32 x : EReal) = 0 := Ideal.ofBits_zero_f32

/-- The numerator: the sum of the losses. -/
theorem numerator (l : FVec Ideal S8x128x256 .f32 → FVec Ideal S8x128x256 .f32 → FVec Ideal S8x128x256 .f32) (β : EReal → EReal → EReal)
    (hβ : ∀ x t j, (l x t j : EReal) = β (x j) (t j)) (h : ∀ j, (a2 j).toNat < 16384) (z : FVec Ideal S8x128x256 .f32) (hz : ∀ j, (z j : EReal) = 0) (j : S_.Idx) :
    Host.reduceAdd (F := Ideal) (φ := .f32) (select (mask3 a1) (l (pred3 a0 a2) a3) z) (constant S_ .f32 0x00000000#32) reducesTo_S8x128x256_S_d0_1_2 h_S_ j
      = (∑ n ∈ Finset.range 1024, ∑ c ∈ Finset.range 256, maskedAt a0 a1 a2 a3 β n c : EReal) := by
  rw [ValueIdx.hostReduceAdd_apply, Ideal.hostReduceAdd_total _ (fun b => b.elim0), const_zero, zero_add, sum_idx3, ← sum_batches]
  refine Finset.sum_congr rfl fun b _ => Finset.sum_congr rfl fun k _ => ?_
  rw [Finset.sum_range]
  exact Finset.sum_congr rfl fun c _ => masked_apply a0 a1 a2 a3 l β hβ h z hz b k c

/-- A pair's mask, over its channels. -/
theorem sum_count (b : Fin 8) (k : Fin 128) :
    (∑ c : Fin 256, (uitofp (F := Ideal) .f32 (mask3 a1) (ix3 b k c) : EReal)) = (((liveAt a1 (b.val * 128 + k.val) * 256 : ℕ) : ℝ) : EReal) := by
  rw [Finset.sum_congr rfl fun c _ => count_apply a1 b k c, sum_coe]
  refine congrArg (fun n : ℕ => ((n : ℝ) : EReal)) ?_
  generalize liveAt a1 (b.val * 128 + k.val) = n
  rw [Finset.sum_const, Finset.card_univ, Fintype.card_fin, smul_eq_mul, Nat.mul_comm]

/-- The denominator: the number of elements unmasked. -/
theorem denominator (j : S_.Idx) :
    Host.reduceAdd (F := Ideal) (uitofp .f32 (mask3 a1)) (constant S_ .f32 0x00000000#32) reducesTo_S8x128x256_S_d0_1_2 h_S_ j
      = ((((∑ n ∈ Finset.range 1024, liveAt a1 n) * 256 : ℕ) : ℝ) : EReal) := by
  rw [ValueIdx.hostReduceAdd_apply, Ideal.hostReduceAdd_total _ (fun b => b.elim0), const_zero, zero_add, sum_idx3, Finset.sum_mul, ← sum_coe, ← sum_batches]
  exact Finset.sum_congr rfl fun b _ => Finset.sum_congr rfl fun k _ => sum_count a1 b k

/-- The quotient of two sums, the second with a word added, at an element. -/
theorem quotient (u v w : FVec Ideal S_ .f32) (a b e : EReal) (j : S_.Idx) (hu : u j = a) (hv : v j = b) (hw : w j = e) :
    Host.divf u (addf v w) j = Ideal.div a (b + e) := by
  subst hu hv hw
  rfl

/-- The steps' result is the masked mean of the losses. -/
theorem steps_loss (l : FVec Ideal S8x128x256 .f32 → FVec Ideal S8x128x256 .f32 → FVec Ideal S8x128x256 .f32) (β : EReal → EReal → EReal)
    (hβ : ∀ x t j, (l x t j : EReal) = β (x j) (t j)) (h : ∀ j, (a2 j).toNat < 16384) (z : FVec Ideal S8x128x256 .f32) (hz : ∀ j, (z j : EReal) = 0) :
    Host.divf (Host.reduceAdd (F := Ideal) (φ := .f32) (select (mask3 a1) (l (pred3 a0 a2) a3) z) (constant S_ .f32 0x00000000#32) reducesTo_S8x128x256_S_d0_1_2 h_S_)
        (addf (Host.reduceAdd (uitofp .f32 (mask3 a1)) (constant S_ .f32 0x00000000#32) reducesTo_S8x128x256_S_d0_1_2 h_S_) (constant S_ .f32 0x38D1B717#32))
      = fun _ => Ideal.div (∑ n ∈ Finset.range 1024, ∑ c ∈ Finset.range 256, maskedAt a0 a1 a2 a3 β n c)
        ((((∑ n ∈ Finset.range 1024, liveAt a1 n) * 256 : ℕ) : ℝ) + Ideal.ofBits .f32 0x38D1B717#32) := by
  funext j
  exact quotient _ _ _ _ _ _ j (numerator a0 a1 a2 a3 l β hβ h z hz j) (denominator a1 j) rfl

/-- The reference's result is the masked mean of the losses. -/
theorem res_loss (m : (ℓ : Loc nD τ sig) → Buf (Elt Ideal) ℓ) (c : Dev nD)
    (h : ∀ j, ((m ((c.tc : Thread nD τ).loc main_arg2) : S8x128.Idx → BitVec 32) j).toNat < 16384) :
    Cert.ReferenceIdeal.Value.res_main_v41 m c = fun _ => meanLoss (m ((c.tc : Thread nD τ).loc main_arg0)) (m ((c.tc : Thread nD τ).loc main_arg1))
      (m ((c.tc : Thread nD τ).loc main_arg2)) (m ((c.tc : Thread nD τ).loc main_arg3)) :=
  (res_eq m c).trans (steps_loss _ _ _ _ loss3 bce loss3_apply h _ (fun _ => Ideal.ofBits_zero_f32))

end Cert.Proof.Ref

end
-- ==== Proof.Log1p.lean ====
/-
  The polynomial of degree six in `e`, which stands for `log (1 + e)`, is within `4e-6` of it for `e` between zero and one.
  The logarithm is expanded about the interval's middle; the difference of the two polynomials is then bounded on each of
  thirty-two pieces, by the absolute values of its coefficients about the piece's middle.
-/
module

public import Mathlib.Analysis.SpecialFunctions.ExpDeriv
public import Mathlib.Analysis.SpecialFunctions.Log.Basic
public import Mathlib.Analysis.Calculus.Deriv.Inverse
public import Mathlib.Analysis.Calculus.Deriv.Pow
public import Mathlib.Analysis.Calculus.Deriv.Add
public import Mathlib.Analysis.Calculus.Deriv.Mul
public import Mathlib.Analysis.Calculus.MeanValue
public import Idealize.ShloMosaic.Lib.Pointwise

@[expose] public section

noncomputable section

namespace Cert.Proof.Log1p

/-! ## Polynomials with integer coefficients, the constant one first -/

/-- A polynomial's value. -/
def eval : List ℤ → ℝ → ℝ
  | [], _ => 0
  | c :: cs, x => c + x * eval cs x

/-- The coefficients of `a + (j + y) * q` in `y`. -/
def step (j : ℤ) : ℤ → List ℤ → List ℤ
  | a, [] => [a]
  | a, q :: qs => (a + j * q) :: step j q qs

/-- The coefficients about `j`. -/
def shift (j : ℤ) : List ℤ → List ℤ
  | [] => []
  | c :: cs => step j c (shift j cs)

/-- The sum of the coefficients' absolute values. -/
def size : List ℤ → ℕ
  | [] => 0
  | c :: cs => c.natAbs + size cs

/-- What `step` computes. -/
theorem eval_step (j : ℤ) (y : ℝ) : ∀ (qs : List ℤ) (a : ℤ), eval (step j a qs) y = a + (j + y) * eval qs y
  | [], a => by simp [step, eval]
  | q :: qs, a => by
    simp only [step, eval, eval_step j y qs q]
    push_cast
    ring

/-- The shifted polynomial at `y` is the polynomial at `j + y`. -/
theorem eval_shift (j : ℤ) (y : ℝ) : ∀ cs : List ℤ, eval (shift j cs) y = eval cs (j + y)
  | [] => rfl
  | c :: cs => by simp only [shift, eval, eval_step, eval_shift j y cs]

/-- Between minus one and one a polynomial is at most the sum of its coefficients' absolute values. -/
theorem abs_eval_le {y : ℝ} (hy : |y| ≤ 1) : ∀ cs : List ℤ, |eval cs y| ≤ size cs
  | [] => by simp [eval, size]
  | c :: cs => by
    have h := abs_eval_le hy cs
    have h0 : (0 : ℝ) ≤ size cs := Nat.cast_nonneg _
    calc |eval (c :: cs) y| ≤ |(c : ℝ)| + |y * eval cs y| := abs_add_le _ _
      _ ≤ |(c : ℝ)| + 1 * size cs := by
        rw [abs_mul]
        exact add_le_add le_rfl (mul_le_mul hy h (abs_nonneg _) zero_le_one)
      _ = size (c :: cs) := by
        simp only [size, Nat.cast_add, Nat.cast_natAbs, Int.cast_abs, one_mul]

/-! ## The difference of the polynomial and the expansion -/

/-- The polynomial of the programs, with its coefficients as rational numbers. -/
def poly (e : ℝ) : ℝ :=
  ((((((-9238507 / 536870912 : ℝ) * e + 10969187 / 134217728) * e + -12668991 / 67108864) * e + 10555907 / 33554432) * e
    + -4168953 / 8388608) * e + 8386867 / 8388608) * e + 15426377 / 4398046511104

/-- The common denominator of the difference's coefficients. -/
def scale : ℕ := 124297147540413177167862421883853934291845120

/-- The difference of the polynomial and the logarithm's expansion, in thirty-second parts of half the interval, times `scale`. -/
def coeffs : List ℤ := [17494355209243921580901146118716391424,
  -24376151909636233198610831457417953280,
  -544561658657028497570248060305408000,
  210223580946154956898312779517132800,
  2865996047165625909669599694028800,
  -435860312445304237325680279289856,
  -4659630918239775082571366400000,
  236300418595061714204240117760,
  2153779856986239582590730240,
  19942406083205922061025280,
  186960057030055519322112,
  1770455085511889387520,
  16905387101241999360,
  162551799050403840,
  1572301627719680]

/-- The bound on the difference, times `scale`. -/
def bound : ℕ := 447469731145487437804304718781874163450

/-- On each piece the coefficients about its middle are small. -/
theorem pieces : (List.range 32).all (fun i => decide (size (shift (2 * (i : ℤ) - 31) coeffs) ≤ bound)) = true := by decide +kernel

/-- So the difference is small. -/
theorem abs_eval_coeffs {v : ℝ} (h0 : -32 ≤ v) (h1 : v ≤ 32) : |eval coeffs v| ≤ bound := by
  obtain ⟨i, hi, hv⟩ : ∃ i : ℕ, i < 32 ∧ |v - ((2 * (i : ℤ) - 31 : ℤ) : ℝ)| ≤ 1 := by
    rcases eq_or_lt_of_le h1 with rfl | h1
    · exact ⟨31, by omega, by norm_num⟩
    · have hp : 0 ≤ (v + 32) / 2 := by linarith
      refine ⟨⌊(v + 32) / 2⌋₊, (Nat.floor_lt hp).mpr (by push_cast; linarith), abs_le.mpr ?_⟩
      have ha := Nat.floor_le hp
      have hb := Nat.lt_floor_add_one ((v + 32) / 2)
      push_cast
      constructor <;> linarith
  have hs := of_decide_eq_true (List.all_eq_true.mp pieces i (List.mem_range.mpr hi))
  have h := abs_eval_le hv (shift (2 * (i : ℤ) - 31) coeffs)
  rw [eval_shift, add_sub_cancel] at h
  exact h.trans (Nat.cast_le.mpr hs)

/-- Half the interval's relative distance from its middle. -/
def mid (e : ℝ) : ℝ := (1 - 2 * e) / 3

/-- The terms of the expansion of `-log (1 - x)`. -/
def terms (x : ℝ) : ℝ := ∑ i ∈ Finset.range 14, x ^ (i + 1) / (i + 1)

/-- What the coefficients are. -/
theorem eval_coeffs (v : ℝ) : eval coeffs v = scale * (poly ((1 - v / 32) / 2) - terms (1 / 3) + terms (v / 96)) := by
  simp only [eval, coeffs, scale, poly, terms, Finset.sum_range_succ, Finset.sum_range_zero]
  push_cast
  ring

/-! ## The logarithm -/

/-- The logarithm's derivative. -/
theorem deriv_log {x : ℝ} (hx : 0 < x) : HasDerivAt Real.log x⁻¹ x := by
  have h := (Real.hasDerivAt_exp (Real.log x)).of_local_left_inverse (Real.continuousAt_log hx.ne') (Real.exp_pos _).ne'
    ((lt_mem_nhds hx).mono fun y hy => Real.exp_log hy)
  rwa [Real.exp_log hx] at h

/-- The derivative of the logarithm and the expansion together. -/
theorem deriv_terms {e : ℝ} (he : 0 ≤ e) : HasDerivAt (fun e => terms (mid e) + Real.log (1 + e)) (mid e ^ 14 * (1 + e)⁻¹) e := by
  have hp : 0 < 1 + e := by linarith
  have hm : HasDerivAt mid (-2 / 3) e := by
    have h := (((hasDerivAt_id e).const_mul (2 : ℝ)).const_sub 1).div_const 3
    exact h.congr_deriv (by norm_num)
  have ht : HasDerivAt (fun e => terms (mid e)) (∑ i ∈ Finset.range 14, mid e ^ i * (-2 / 3)) e := by
    refine HasDerivAt.fun_sum fun i _ => ?_
    have h := (hm.fun_pow (i + 1)).div_const ((i : ℝ) + 1)
    have hi : (i : ℝ) + 1 ≠ 0 := by positivity
    refine h.congr_deriv ?_
    rw [Nat.add_sub_cancel]
    push_cast
    field_simp
  have hl : HasDerivAt (fun e => Real.log (1 + e)) ((1 + e)⁻¹ * 1) e :=
    (deriv_log hp).comp e ((hasDerivAt_id e).const_add 1)
  refine (ht.add hl).congr_deriv ?_
  rw [← Finset.sum_mul]
  have hg : (∑ i ∈ Finset.range 14, mid e ^ i) * (mid e - 1) = mid e ^ 14 - 1 := geom_sum_mul _ _
  have hx : mid e - 1 = -2 / 3 * (1 + e) := by unfold mid; ring
  rw [hx] at hg
  have hg' : (∑ i ∈ Finset.range 14, mid e ^ i) * (-2 / 3) = (mid e ^ 14 - 1) * (1 + e)⁻¹ := by
    rw [eq_mul_inv_iff_mul_eq₀ hp.ne', ← hg]
    ring
  rw [hg']
  ring

/-- The expansion is close to the logarithm. -/
theorem abs_terms {e : ℝ} (h0 : 0 ≤ e) (h1 : e ≤ 1) : |terms (mid e) + Real.log (1 + e) - terms (1 / 3)| ≤ (1 / 3) ^ 14 := by
  have h := norm_image_sub_le_of_norm_deriv_le_segment' (f := fun e => terms (mid e) + Real.log (1 + e)) (a := 0) (b := 1) (C := (1 / 3) ^ 14)
    (fun x hx => (deriv_terms hx.1).hasDerivWithinAt) (fun x hx => ?_) e ⟨h0, h1⟩
  · simp only [mid, mul_zero, sub_zero, add_zero, Real.log_one, Real.norm_eq_abs] at h ⊢
    exact h.trans (by nlinarith [(by positivity : (0 : ℝ) < (1 / 3) ^ 14)])
  · have hx0 := hx.1
    have hx1 := hx.2.le
    rw [Real.norm_eq_abs, abs_mul, abs_pow, abs_of_nonneg (by positivity : (0 : ℝ) ≤ (1 + x)⁻¹)]
    have ha : |mid x| ≤ 1 / 3 := by unfold mid; exact abs_le.mpr ⟨by linarith, by linarith⟩
    have hb : (1 + x)⁻¹ ≤ 1 := inv_le_one_of_one_le₀ (by linarith)
    calc |mid x| ^ 14 * (1 + x)⁻¹ ≤ (1 / 3) ^ 14 * 1 :=
          mul_le_mul (pow_le_pow_left₀ (abs_nonneg _) ha _) hb (by positivity) (by positivity)
      _ = _ := mul_one _

/-- The polynomial is within `39e-7` of the logarithm. -/
theorem abs_poly_sub_log {e : ℝ} (h0 : 0 ≤ e) (h1 : e ≤ 1) : |poly e - Real.log (1 + e)| ≤ 39 / 10000000 := by
  have ht := abs_terms h0 h1
  have hc := abs_eval_coeffs (v := 32 * (1 - 2 * e)) (by linarith) (by linarith)
  rw [eval_coeffs, abs_mul, abs_of_pos (by norm_num [scale] : (0 : ℝ) < scale)] at hc
  have hd := (le_div_iff₀' (by norm_num [scale] : (0 : ℝ) < scale)).mpr hc
  have hq : (bound / scale : ℝ) ≤ 36 / 10000000 := by norm_num [bound, scale]
  have hr : ((1 / 3) ^ 14 : ℝ) ≤ 3 / 10000000 := by norm_num
  rw [show (1 - 32 * (1 - 2 * e) / 32) / 2 = e by ring, show 32 * (1 - 2 * e) / 96 = mid e by unfold mid; ring] at hd
  have hd' := hd.trans hq
  have ht' := ht.trans hr
  rw [abs_le] at hd' ht' ⊢
  constructor <;> linarith [ht'.1, ht'.2, hd'.1, hd'.2]

end Cert.Proof.Log1p

end
-- ==== Proof.NearLoss.lean ====
/-
  The masked mean of the losses with the polynomial is within `4e-6` of the one with `log1p`, whatever the floats are.
-/
module

public import proofs.«01_k».proof.Proof.Loss
public import proofs.«01_k».proof.Proof.Log1p

@[expose] public section

noncomputable section

namespace Cert.Proof.Near

open Idealize.ShloMosaic Loss

/-! ## One loss -/

/-- The loss of a prediction `x` against a target `t`, with the logarithm. -/
def bceLog (x t : EReal) : EReal := (max x 0 - x * t) + Ideal.log1p (Ideal.exp (-(max x (-x))))

/-- How far the polynomial may be from the logarithm. -/
def gap : ℝ := 39 / 10000000

/-- That distance is not negative. -/
theorem gap_nonneg : 0 ≤ gap := by norm_num [gap]

/-- The exponential of minus an absolute value is a real number between zero and one. -/
theorem exp_neg_abs (x : EReal) : ∃ e : ℝ, 0 ≤ e ∧ e ≤ 1 ∧ Ideal.exp (-(max x (-x))) = e := by
  induction x with
  | bot => exact ⟨0, le_rfl, zero_le_one, (congrArg Ideal.exp (by simp : -(max (⊥ : EReal) (-⊥)) = ⊥)).trans rfl⟩
  | top => exact ⟨0, le_rfl, zero_le_one, (congrArg Ideal.exp (by simp : -(max (⊤ : EReal) (-⊤)) = ⊥)).trans rfl⟩
  | coe r =>
    refine ⟨Real.exp (-(max r (-r))), (Real.exp_pos _).le, Real.exp_le_one_iff.mpr ?_, ?_⟩
    · have := le_max_left r (-r)
      have := le_max_right r (-r)
      linarith
    · rw [← EReal.coe_neg, ← EReal.coe_strictMono.monotone.map_max, ← EReal.coe_neg]
      rfl

/-! The words of the polynomial's coefficients. -/

/-- The coefficient of degree 6. -/
theorem word_6 : Ideal.ofBits .f32 0xBC8CF7EB#32 = ((-9238507 / 536870912 : ℝ) : EReal) := by
  simp [Ideal.ofBits, Ideal.ieee]
  norm_num [← EReal.coe_mul]

/-- The coefficient of degree 5. -/
theorem word_5 : Ideal.ofBits .f32 0x3DA76063#32 = ((10969187 / 134217728 : ℝ) : EReal) := by
  simp [Ideal.ofBits, Ideal.ieee]
  norm_num [← EReal.coe_mul]

/-- The coefficient of degree 4. -/
theorem word_4 : Ideal.ofBits .f32 0xBE41503F#32 = ((-12668991 / 67108864 : ℝ) : EReal) := by
  simp [Ideal.ofBits, Ideal.ieee]
  norm_num [← EReal.coe_mul]

/-- The coefficient of degree 3. -/
theorem word_3 : Ideal.ofBits .f32 0x3EA11203#32 = ((10555907 / 33554432 : ℝ) : EReal) := by
  simp [Ideal.ofBits, Ideal.ieee]
  norm_num [← EReal.coe_mul]

/-- The coefficient of degree 2. -/
theorem word_2 : Ideal.ofBits .f32 0xBEFE73E4#32 = ((-4168953 / 8388608 : ℝ) : EReal) := by
  simp [Ideal.ofBits, Ideal.ieee]
  norm_num [← EReal.coe_mul]

/-- The coefficient of degree 1. -/
theorem word_1 : Ideal.ofBits .f32 0x3F7FF266#32 = ((8386867 / 8388608 : ℝ) : EReal) := by
  simp [Ideal.ofBits, Ideal.ieee]
  norm_num [← EReal.coe_mul]

/-- The coefficient of degree 0. -/
theorem word_0 : Ideal.ofBits .f32 0x366B6349#32 = ((15426377 / 4398046511104 : ℝ) : EReal) := by
  simp [Ideal.ofBits, Ideal.ieee]
  norm_num [← EReal.coe_mul]

/-- The word of the ten-thousandth is a positive number. -/
theorem word_eps : Ideal.ofBits .f32 0x38D1B717#32 = ((13743895 / 137438953472 : ℝ) : EReal) := by
  simp [Ideal.ofBits, Ideal.ieee]
  norm_num [← EReal.coe_mul]

/-- The word of the distance that is claimed. -/
theorem word_gap : Ideal.ofBits .f32 0x368637BD#32 = ((8796093 / 2199023255552 : ℝ) : EReal) := by
  simp [Ideal.ofBits, Ideal.ieee]
  norm_num [← EReal.coe_mul]

/-- The polynomial of a real number. -/
theorem poly_coe (e : ℝ) : Loss.poly e = ((Log1p.poly e : ℝ) : EReal) := by
  unfold Loss.poly Log1p.poly
  rw [word_0, word_1, word_2, word_3, word_4, word_5, word_6]
  simp only [← EReal.coe_mul, ← EReal.coe_add]

/-- The logarithm of a real number at least zero, plus one. -/
theorem log1p_coe {e : ℝ} (h : 0 ≤ e) : Ideal.log1p e = ((Real.log (1 + e) : ℝ) : EReal) := by
  have h1 : Ideal.log1p e = Ideal.log ((1 + e : ℝ) : EReal) := by rw [EReal.coe_add]; rfl
  rw [h1]
  exact if_neg (by linarith)

/-- The two losses are close. -/
theorem bce_near (x t : EReal) : bce x t ≤ bceLog x t + gap ∧ bceLog x t ≤ bce x t + gap := by
  obtain ⟨e, h0, h1, he⟩ := exp_neg_abs x
  have h := abs_le.mp (Log1p.abs_poly_sub_log h0 h1)
  unfold bce bceLog
  rw [he, poly_coe, log1p_coe h0, add_assoc, add_assoc, ← EReal.coe_add, ← EReal.coe_add]
  exact ⟨add_le_add_right (EReal.coe_le_coe_iff.mpr (by unfold gap; linarith [h.2])) _,
    add_le_add_right (EReal.coe_le_coe_iff.mpr (by unfold gap; linarith [h.1])) _⟩

/-! ## Their masked mean -/

variable (a0 : (⟨4, ![8, 256, 128, 128]⟩ : Shape).Idx → EReal) (a1 a2 : (⟨2, ![8, 128]⟩ : Shape).Idx → BitVec 32)
  (a3 : (⟨3, ![8, 128, 256]⟩ : Shape).Idx → EReal)

/-- The loss, with the logarithm, of pair `n` in channel `c`: nothing if the pair is masked. -/
def lossLog (n c : ℕ) : EReal := if a1 (qIx n) = 0#32 then 0 else bceLog (pred a0 a2 n c) (target a3 n c)

/-- The masked mean of the losses with the logarithm. -/
def meanLog : EReal :=
  Ideal.div (∑ n ∈ Finset.range 1024, ∑ c ∈ Finset.range 256, lossLog a0 a1 a2 a3 n c)
    ((((∑ n ∈ Finset.range 1024, liveAt a1 n) * 256 : ℕ) : ℝ) + Ideal.ofBits .f32 0x38D1B717#32)

/-- The two masked losses are close, and equal where the pair is masked. -/
theorem loss_near (n c : ℕ) : lossAt a0 a1 a2 a3 n c ≤ lossLog a0 a1 a2 a3 n c + ((liveAt a1 n * gap : ℝ) : EReal)
    ∧ lossLog a0 a1 a2 a3 n c ≤ lossAt a0 a1 a2 a3 n c + ((liveAt a1 n * gap : ℝ) : EReal) := by
  unfold lossAt lossLog liveAt
  by_cases h : a1 (qIx n) = 0#32
  · simp [h]
  · simpa [h] using bce_near (pred a0 a2 n c) (target a3 n c)

/-- A sum of real numbers, among the extended reals. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Terms that are close for every unmasked pair have sums that are close in proportion to the number of elements unmasked. -/
theorem sum_near (f g : ℕ → ℕ → EReal) (h : ∀ n c, f n c ≤ g n c + ((liveAt a1 n * gap : ℝ) : EReal)) :
    ∑ n ∈ Finset.range 1024, ∑ c ∈ Finset.range 256, f n c ≤ (∑ n ∈ Finset.range 1024, ∑ c ∈ Finset.range 256, g n c)
      + (((((∑ n ∈ Finset.range 1024, liveAt a1 n) * 256 : ℕ) : ℝ) * gap : ℝ) : EReal) := by
  refine (Finset.sum_le_sum fun n _ => Finset.sum_le_sum fun c _ => h n c).trans (le_of_eq ?_)
  simp only [Finset.sum_add_distrib]
  refine congrArg _ ?_
  simp only [sum_real]
  refine congrArg _ ?_
  rw [Nat.cast_mul, Nat.cast_sum, Finset.sum_mul, Finset.sum_mul]
  refine Finset.sum_congr rfl fun n _ => ?_
  rw [Finset.sum_const, Finset.card_range, nsmul_eq_mul]
  ring

/-- Sums that are close in proportion to a count have close quotients by that count and something positive. -/
theorem div_near (S T : EReal) (N : ℕ) (d : ℝ) (hd : 0 < d) (h : S ≤ T + ((N * gap : ℝ) : EReal)) :
    Ideal.div S ((N : ℝ) + (d : EReal)) ≤ Ideal.div T ((N : ℝ) + (d : EReal)) + gap := by
  have hp : 0 < (N : ℝ) + d := by positivity
  have hz : (((N : ℝ) + d : ℝ) : EReal) ≠ 0 := by
    rw [← EReal.coe_zero]
    exact fun h => hp.ne' (EReal.coe_injective h)
  have hi : (0 : EReal) ≤ (((N : ℝ) + d)⁻¹ : ℝ) := EReal.coe_nonneg.mpr (by positivity)
  rw [← EReal.coe_add]
  unfold Ideal.div
  rw [if_neg hz, if_neg hz, ← EReal.coe_inv]
  refine (mul_le_mul_of_nonneg_right h hi).trans ?_
  have hq : (N * gap) * ((N : ℝ) + d)⁻¹ ≤ gap := by
    rw [← div_eq_mul_inv, div_le_iff₀ hp]
    nlinarith [gap_nonneg]
  rw [EReal.right_distrib_of_nonneg_of_ne_top hi (EReal.coe_ne_top _), ← EReal.coe_mul]
  exact add_le_add_right (EReal.coe_le_coe_iff.mpr hq) _

/-- The distance is at most the one that is claimed. -/
theorem gap_le : ((gap : ℝ) : EReal) ≤ Ideal.ofBits .f32 0x368637BD#32 := by
  rw [word_gap]
  exact EReal.coe_le_coe_iff.mpr (by norm_num [gap])

/-- The two means are close. -/
theorem mean_near : meanLog a0 a1 a2 a3 ≤ meanLoss a0 a1 a2 a3 + Ideal.ofBits .f32 0x368637BD#32
    ∧ meanLoss a0 a1 a2 a3 ≤ meanLog a0 a1 a2 a3 + Ideal.ofBits .f32 0x368637BD#32 := by
  unfold meanLog meanLoss
  rw [word_eps]
  exact ⟨(div_near _ _ _ _ (by norm_num) (sum_near a1 _ _ fun n c => (loss_near a0 a1 a2 a3 n c).2)).trans (add_le_add_right gap_le _),
    (div_near _ _ _ _ (by norm_num) (sum_near a1 _ _ fun n c => (loss_near a0 a1 a2 a3 n c).1)).trans (add_le_add_right gap_le _)⟩

end Cert.Proof.Near

end
-- ==== Proof.PostNear.lean ====
/-
  The postcondition with `log1p`: it holds of the masked mean of the losses with the polynomial.
-/
module

public import proofs.«01_k».proof.Defs
public import proofs.«01_k».proof.Proof.Gen.Post_near_log1p
public import proofs.«01_k».proof.Proof.NearLoss
public import proofs.«01_k».proof.Proof.ReferenceLoss

@[expose] public section

noncomputable section

namespace Cert.Proof.Ref

open Cert.ReferenceIdeal Cert.ReferenceIdeal.Gen
open Idealize.ShloMosaic
open Cert.Proof.Loss

variable (a0 : S8x256x128x128.Idx → EReal) (a1 a2 : S8x128.Idx → BitVec 32) (a3 : S8x128x256.Idx → EReal)

/-- The loss with the logarithm of predictions `x` against targets `t`, element by element. -/
def lossLog3 (x t : FVec Ideal S8x128x256 .f32) : FVec Ideal S8x128x256 .f32 :=
  addf (subf (maximumf x (splat 0x00000000#32)) (mulf x t)) (Host.log1p (Host.exp (Host.negf (Host.absf x))))

/-- That loss at an element. -/
theorem lossLog3_apply (x t : FVec Ideal S8x128x256 .f32) (j : S8x128x256.Idx) : lossLog3 x t j = Near.bceLog (x j) (t j) := by
  have hz : (splat 0x00000000#32 j : EReal) = 0 := Ideal.ofBits_zero_f32
  show ((max (x j) (splat 0x00000000#32 j : EReal) - x j * t j) + _ : EReal) = _
  rw [hz]
  rfl

/-- The postcondition's mean. -/
def meanLog0 : FVec Ideal S_ .f32 :=
  Host.divf (Host.reduceAdd (F := Ideal) (φ := .f32) (select (mask3 a1) (lossLog3 (pred3 a0 a2) a3)
      (broadcastInDim S8x128x256 ![] bcast_S_S8x128x256 (id (constant (F := Ideal) S_ .f32 0x00000000#32))))
      (constant S_ .f32 0x00000000#32) reducesTo_S8x128x256_S_d0_1_2 h_S_)
    (addf (Host.reduceAdd (uitofp .f32 (mask3 a1)) (constant S_ .f32 0x00000000#32) reducesTo_S8x128x256_S_d0_1_2 h_S_) (constant S_ .f32 0x38D1B717#32))

/-- The postcondition's mean is the masked mean of the losses with the logarithm. -/
theorem meanLog0_eq (h : ∀ j, (a2 j).toNat < 16384) : meanLog0 a0 a1 a2 a3 = fun _ => Near.meanLog a0 a1 a2 a3 :=
  steps_loss _ _ _ _ lossLog3 Near.bceLog lossLog3_apply h _ (fun _ => Ideal.ofBits_zero_f32)

/-- The postcondition from its mean. -/
theorem post_eq (v : FVec Ideal S_ .f32) : Cert.Post_near_log1p.fn (F := Ideal) a0 a1 a2 a3 v
    = andi (cmpf .ole (meanLog0 a0 a1 a2 a3) (addf v (constant S_ .f32 0x368637BD#32)))
      (cmpf .ole v (addf (meanLog0 a0 a1 a2 a3) (constant S_ .f32 0x368637BD#32))) := rfl

/-- A comparison that holds, at an element. -/
theorem ole_true (x y : EReal) (h : x ≤ y) : Ideal.cmp .ole x y = 1#1 := by
  show BitVec.ofBool (decide (x ≤ y)) = 1#1
  rw [decide_eq_true h]
  rfl

/-- Two comparisons of a value and a mean, each with a word added, that both hold. -/
theorem near_true (u v w : FVec Ideal S_ .f32) (j : S_.Idx) (h1 : (u j : EReal) ≤ v j + w j) (h2 : (v j : EReal) ≤ u j + w j) :
    andi (cmpf .ole u (addf v w)) (cmpf .ole v (addf u w)) j = 1#1 := by
  show IntOp.andi (Ideal.cmp .ole (u j) (v j + w j)) (Ideal.cmp .ole (v j) (u j + w j)) = 1#1
  rw [ole_true _ _ h1, ole_true _ _ h2]
  rfl

/-- The postcondition holds of the masked mean of the losses. -/
theorem post_mean (h : ∀ j, (a2 j).toNat < 16384) :
    Cert.Post_near_log1p.fn (F := Ideal) a0 a1 a2 a3 (fun _ => meanLoss a0 a1 a2 a3) = fun _ => 1#1 := by
  rw [post_eq, meanLog0_eq a0 a1 a2 a3 h]
  funext j
  exact near_true _ _ _ j (Near.mean_near a0 a1 a2 a3).1 (Near.mean_near a0 a1 a2 a3).2

end Cert.Proof.Ref

end
-- ==== Proof.lean ====
/-
  The claims: the frames of the three programs, the idealized kernel as the kernel over the extended reals, the kernel's result as the
  reference's, and its distance from the masked mean of the losses with `log1p`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Post_near_log1p
public import proofs.«01_k».proof.Proof.Gen.ReferenceIdeal.Run
public import Idealize.ShloMosaic.Lib.Quiescent
public import proofs.«01_k».proof.Proof.Frames
public import proofs.«01_k».proof.Proof.KernelLoss
public import proofs.«01_k».proof.Proof.ReferenceLoss
public import proofs.«01_k».proof.Proof.PostNear

@[expose] public section

noncomputable section

namespace Cert.Proof

open Idealize.ShloMosaic Idealize.SL.Sem

/-- The reference's frame: its run is read off its operations, and it has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's frame under the precondition. -/
theorem frame_reference_pre : Cert.quiescent_ReferenceIdeal_pre_in_range :=
  fun m g _ => frame_reference m g trivial

/-- The kernel's result is the reference's, over the extended reals: both are the masked mean of the losses. -/
theorem algebraic : Cert.algebraic_KernelIdeal_ReferenceIdeal := by
  intro m g m' g' hpre hargs
  have hk : ∀ c : Dev Cert.KernelIdeal.nD, ∀ j, ((m (c, Sc.arg2') : Cert.KernelIdeal.S8x128.Idx → BitVec 32) j).toNat < 16384 :=
    fun c => Sc.lt_of_in_range _ _ _ _ (hpre c)
  refine ⟨fun c => fun _ => Loss.meanLoss (m (c, Sc.arg0')) (m (c, Sc.arg1')) (m (c, Sc.arg2')) (m (c, Sc.arg3')), ?_, ?_⟩
  · exact (θ_run Cert.KernelIdeal.defs _ _).mono (fun _ hr c => ⟨(hr.1 c).1.trans (Sc.resultOf_partials m c (hk c)), (hr.1 c).2⟩)
      (Sc.run_claim (F := Ideal) m g hpre)
  · refine (θ_run Cert.ReferenceIdeal.defs _ _).mono (fun _ hr c => ⟨(hr c).1.trans ?_, (hr c).2⟩) (Cert.ReferenceIdeal.Value.run (F := Ideal) m' g')
    obtain ⟨h0, h1, h2, h3⟩ := hargs c
    rw [Ref.res_loss m' c (fun j => by rw [h2]; exact hk c j), h0, h1, h2, h3]
    rfl

/-- The kernel's result is within `4e-6` of the masked mean of the losses with `log1p`. -/
theorem near_log1p : Cert.holds_KernelIdeal_near_log1p := by
  intro m g hpre
  refine (θ_run Cert.KernelIdeal.defs _ _).mono (fun _ hr c => ?_) (Sc.run_claim (F := Ideal) m g hpre)
  have hk : ∀ j, ((m (c, Sc.arg2') : Cert.KernelIdeal.S8x128.Idx → BitVec 32) j).toNat < 16384 := Sc.lt_of_in_range _ _ _ _ (hpre c)
  obtain ⟨hv, h0, h1, h2, h3⟩ := hr.1 c
  refine ⟨h0, h1, h2, h3, ?_⟩
  exact (congrArg (Cert.Post_near_log1p.fn (F := Ideal) _ _ _ _) (hv.trans (Sc.resultOf_partials m c hk))).trans (Ref.post_mean _ _ _ _ hk)

/-- The claims, together. -/
theorem claim : Cert.Claim := ⟨Cert.Kernel.Gen.facts, Cert.KernelIdeal.Gen.facts, Cert.ReferenceIdeal.Gen.facts, Cert.Pre_in_range.Gen.facts,
  Cert.Post_near_log1p.Gen.facts, Sc.frame_kernel, Sc.frame_kernelIdeal, frame_reference, frame_reference_pre, trivial, algebraic, near_log1p⟩

end Cert.Proof

end
